-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel)
    ∧ quiescent_KernelIdeal (hKernelIdeal := hKernelIdeal)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_sorted.lean ====
abbrev S8x2048x20480 : Shape := ⟨3, ![8, 2048, 20480]⟩
abbrev S8x2048x20 : Shape := ⟨3, ![8, 2048, 20]⟩
abbrev S8x2048x4096 : Shape := ⟨3, ![8, 2048, 4096]⟩
abbrev S8x2048 : Shape := ⟨2, ![8, 2048]⟩
abbrev S16384x4096 : Shape := ⟨2, ![16384, 4096]⟩
abbrev S16384 : Shape := ⟨1, ![16384]⟩
abbrev S20480x4096 : Shape := ⟨2, ![20480, 4096]⟩
abbrev S16383 : Shape := ⟨1, ![16383]⟩

class Facts : Prop where
  slices_S16384_S16383_0 : S16384.Slices ![0] S16383
  slices_S16384_S16383_1 : S16384.Slices ![1] S16383

variable [Facts]

def fn {F : FTy → Type} [FloatOps F] (main_arg0 : FVec F S8x2048x20480 .fp8e5m2) (main_arg1 : FVec F S8x2048x20 .f32) (main_arg2 : FVec F S8x2048x4096 .fp8e4m3) (main_arg3 : FVec F S8x2048 .f32) (main_arg4 : FVec F S16384x4096 .fp8e5m2) (main_arg5 : FVec F S16384 .f32) (main_arg6 : IVec S16384 32) (main_arg7 : FVec F S20480x4096 .f32) : IVec S16383 1 :=
  let main_v0 : IVec S16383 32 := (extractStridedSlice S16383 ![0] · slices_S16384_S16383_0) main_arg6
  let main_v1 : IVec S16383 32 := (extractStridedSlice S16383 ![1] · slices_S16384_S16383_1) main_arg6
  let main_v2 : IVec S16383 1 := cmpi .sle main_v0 main_v1
  main_v2
-- ==== Kernel.lean ====
abbrev S8x2048x20480 : Shape := ⟨3, ![8, 2048, 20480]⟩
abbrev S8x2048x20 : Shape := ⟨3, ![8, 2048, 20]⟩
abbrev S8x2048x4096 : Shape := ⟨3, ![8, 2048, 4096]⟩
abbrev S8x2048 : Shape := ⟨2, ![8, 2048]⟩
abbrev S16384x4096 : Shape := ⟨2, ![16384, 4096]⟩
abbrev S16384 : Shape := ⟨1, ![16384]⟩
abbrev S20480x4096 : Shape := ⟨2, ![20480, 4096]⟩
abbrev S16384x20 : Shape := ⟨2, ![16384, 20]⟩
abbrev S20x16384 : Shape := ⟨2, ![20, 16384]⟩
abbrev S20x1x16384 : Shape := ⟨3, ![20, 1, 16384]⟩
abbrev S1x16384 : Shape := ⟨2, ![1, 16384]⟩
abbrev S81 : Shape := ⟨1, ![81]⟩
abbrev S_ : Shape := ⟨0, ![]⟩
abbrev S81x1 : Shape := ⟨2, ![81, 1]⟩
abbrev S81x16384 : Shape := ⟨2, ![81, 16384]⟩
abbrev S16384x20480 : Shape := ⟨2, ![16384, 20480]⟩
abbrev S64x1x256 : Shape := ⟨3, ![64, 1, 256]⟩
abbrev S1024x1024 : Shape := ⟨2, ![1024, 1024]⟩
abbrev S1x1x1024 : Shape := ⟨3, ![1, 1, 1024]⟩
abbrev S1x1024 : Shape := ⟨2, ![1, 1024]⟩
abbrev S1024x4096 : Shape := ⟨2, ![1024, 4096]⟩
abbrev S2x1024x4096 : Shape := ⟨3, ![2, 1024, 4096]⟩
abbrev S256x4096 : Shape := ⟨2, ![256, 4096]⟩
abbrev S1x1024x4096 : Shape := ⟨3, ![1, 1024, 4096]⟩
abbrev S1x1024x512 : Shape := ⟨3, ![1, 1024, 512]⟩
abbrev S1024x512 : Shape := ⟨2, ![1024, 512]⟩
abbrev S1 : Shape := ⟨1, ![1]⟩
abbrev S256x256 : Shape := ⟨2, ![256, 256]⟩
abbrev S1x1x256 : Shape := ⟨3, ![1, 1, 256]⟩
abbrev S1x256 : Shape := ⟨2, ![1, 256]⟩
abbrev S1x256x4096 : Shape := ⟨3, ![1, 256, 4096]⟩

abbrev nBuf : Space → Nat
  | .hbm => 28
  | .vmem => 13
  | .smem => 1
  | _ => 0

abbrev bufTy : (tb : Table) → Fin (tcTables nBuf tb) → BufTy
  | .hbm, ⟨0, _⟩ => ⟨S8x2048x20480, .fp8e5m2⟩
  | .hbm, ⟨1, _⟩ => ⟨S8x2048x20, .f32⟩
  | .hbm, ⟨2, _⟩ => ⟨S8x2048x4096, .fp8e4m3⟩
  | .hbm, ⟨3, _⟩ => ⟨S8x2048, .f32⟩
  | .hbm, ⟨4, _⟩ => ⟨S16384x4096, .fp8e5m2⟩
  | .hbm, ⟨5, _⟩ => ⟨S16384, .f32⟩
  | .hbm, ⟨6, _⟩ => ⟨S16384, .i32⟩
  | .hbm, ⟨7, _⟩ => ⟨S20480x4096, .f32⟩
  | .hbm, ⟨8, _⟩ => ⟨S16384x20, .f32⟩
  | .hbm, ⟨9, _⟩ => ⟨S20x16384, .f32⟩
  | .hbm, ⟨10, _⟩ => ⟨S20x1x16384, .f32⟩
  | .hbm, ⟨11, _⟩ => ⟨S1x16384, .f32⟩
  | .hbm, ⟨12, _⟩ => ⟨S81, .i32⟩
  | .hbm, ⟨13, _⟩ => ⟨S_, .i32⟩
  | .hbm, ⟨14, _⟩ => ⟨S81, .i32⟩
  | .hbm, ⟨15, _⟩ => ⟨S81, .i32⟩
  | .hbm, ⟨16, _⟩ => ⟨S1x16384, .i32⟩
  | .hbm, ⟨17, _⟩ => ⟨S81x1, .i32⟩
  | .hbm, ⟨18, _⟩ => ⟨S81x16384, .i32⟩
  | .hbm, ⟨19, _⟩ => ⟨S81x16384, .i32⟩
  | .hbm, ⟨20, _⟩ => ⟨S81x16384, .i1⟩
  | .hbm, ⟨21, _⟩ => ⟨S81x16384, .i32⟩
  | .hbm, ⟨22, _⟩ => ⟨S_, .i32⟩
  | .hbm, ⟨23, _⟩ => ⟨S16384x20480, .fp8e5m2⟩
  | .hbm, ⟨24, _⟩ => ⟨S16384x4096, .fp8e4m3⟩
  | .hbm, ⟨25, _⟩ => ⟨S64x1x256, .i32⟩
  | .hbm, ⟨26, _⟩ => ⟨S64x1x256, .f32⟩
  | .hbm, ⟨27, _⟩ => ⟨S20480x4096, .f32⟩
  | .local _ .vmem, ⟨0, _⟩ => ⟨S1024x1024, .fp8e5m2⟩
  | .local _ .vmem, ⟨1, _⟩ => ⟨S1024x1024, .fp8e5m2⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .fp8e4m3⟩
  | .local _ .vmem, ⟨7, _⟩ => ⟨S1024x4096, .fp8e4m3⟩
  | .local _ .vmem, ⟨8, _⟩ => ⟨S64x1x256, .i32⟩
  | .local _ .vmem, ⟨9, _⟩ => ⟨S64x1x256, .f32⟩
  | .local _ .vmem, ⟨10, _⟩ => ⟨S2x1024x4096, .f32⟩
  | .local _ .vmem, ⟨11, _⟩ => ⟨S1024x1024, .bf16⟩
  | .local _ .vmem, ⟨12, _⟩ => ⟨S256x4096, .fp8e5m2⟩
  | .local _ .smem, ⟨0, _⟩ => ⟨S81, .i32⟩
  | _, _ => ⟨S8x2048x20480, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![20, 16], ![false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

def k0_off1 (i : grid0.Coords) : Fin 3 → Nat :=
  let arg0 : BitVec 32 := BitVec.ofNat 32 (i 0).val
  let c2_i32 : BitVec 32 := 2#32
  let v0 : BitVec 32 := Scalar.remsi arg0 c2_i32
  let c0_i32_82 : BitVec 32 := 0#32
  let c0_i32_83 : BitVec 32 := 0#32
  ![v0.toNat, 0, 0]
def k0_off2 (i : grid0.Coords) : Fin 2 → Nat :=
  let arg0 : BitVec 32 := BitVec.ofNat 32 (i 0).val
  let c1024_i32 : BitVec 32 := 1024#32
  let v134 : BitVec 32 := Scalar.muli arg0 c1024_i32
  let c0_i32_84 : BitVec 32 := 0#32
  ![v134.toNat, 0]
def k0_cond3 (i : grid0.Coords) : BitVec 1 :=
  let arg1 : BitVec 32 := BitVec.ofNat 32 (i 1).val
  let c1_i32 : BitVec 32 := 1#32
  let v9 : BitVec 1 := Scalar.cmpi .eq arg1 c1_i32
  let arg0 : BitVec 32 := BitVec.ofNat 32 (i 0).val
  let c0_i32_4 : BitVec 32 := 0#32
  let v10 : BitVec 1 := Scalar.cmpi .sgt arg0 c0_i32_4
  let v11 : BitVec 1 := Scalar.andi v9 v10
  let v12 : BitVec 32 := Scalar.extui v11
  let c0_i32_5 : BitVec 32 := 0#32
  let v13 : BitVec 1 := Scalar.cmpi .ne v12 c0_i32_5
  v13

def k0_off3 (i : grid0.Coords) : Fin 2 → Nat :=
  let arg0 : BitVec 32 := BitVec.ofNat 32 (i 0).val
  let c1_i32_82 : BitVec 32 := 1#32
  let v134 : BitVec 32 := Scalar.subi arg0 c1_i32_82
  let c1024_i32 : BitVec 32 := 1024#32
  let v136 : BitVec 32 := Scalar.muli v134 c1024_i32
  let c0_i32_84 : BitVec 32 := 0#32
  ![v136.toNat, 0]
def k0_off4 (i : grid0.Coords) : Fin 3 → Nat :=
  let c1_i32_83 : BitVec 32 := 1#32
  let arg0 : BitVec 32 := BitVec.ofNat 32 (i 0).val
  let c2_i32 : BitVec 32 := 2#32
  let v0 : BitVec 32 := Scalar.remsi arg0 c2_i32
  let v135 : BitVec 32 := Scalar.subi c1_i32_83 v0
  let c0_i32_85 : BitVec 32 := 0#32
  let c0_i32_86 : BitVec 32 := 0#32
  ![v135.toNat, 0, 0]
def k0_cond4 (i : grid0.Coords) : BitVec 1 :=
  let arg1 : BitVec 32 := BitVec.ofNat 32 (i 1).val
  let c1_i32_6 : BitVec 32 := 1#32
  let v14 : BitVec 1 := Scalar.cmpi .eq arg1 c1_i32_6
  let arg0 : BitVec 32 := BitVec.ofNat 32 (i 0).val
  let c1_i32_7 : BitVec 32 := 1#32
  let v15 : BitVec 32 := Scalar.addi arg0 c1_i32_7
  let c20_i32 : BitVec 32 := 20#32
  let v16 : BitVec 1 := Scalar.cmpi .slt v15 c20_i32
  let v17 : BitVec 1 := Scalar.andi v14 v16
  let v18 : BitVec 32 := Scalar.extui v17
  let c0_i32_8 : BitVec 32 := 0#32
  let v19 : BitVec 1 := Scalar.cmpi .ne v18 c0_i32_8
  v19

def k0_off5 (i : grid0.Coords) : Fin 3 → Nat :=
  let c1_i32_83 : BitVec 32 := 1#32
  let arg0 : BitVec 32 := BitVec.ofNat 32 (i 0).val
  let c2_i32 : BitVec 32 := 2#32
  let v0 : BitVec 32 := Scalar.remsi arg0 c2_i32
  let v135 : BitVec 32 := Scalar.subi c1_i32_83 v0
  let c0_i32_84 : BitVec 32 := 0#32
  let c0_i32_85 : BitVec 32 := 0#32
  ![v135.toNat, 0, 0]
def k0_off6 (i : grid0.Coords) : Fin 2 → Nat :=
  let arg0 : BitVec 32 := BitVec.ofNat 32 (i 0).val
  let c1_i32_82 : BitVec 32 := 1#32
  let v134 : BitVec 32 := Scalar.addi arg0 c1_i32_82
  let c1024_i32 : BitVec 32 := 1024#32
  let v136 : BitVec 32 := Scalar.muli v134 c1024_i32
  let c0_i32_86 : BitVec 32 := 0#32
  ![v136.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v35 : Index := Scalar.indexCast v0
  let c0_17 : Index := 0#32
  let c0_18 : Index := 0#32
  ![v35.toNat, 0, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v47 : Index := Scalar.indexCast v0
  let c0_25 : Index := 0#32
  let c512 : Index := 512#32
  ![v47.toNat, 0, 512]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v59 : Index := Scalar.indexCast v0
  let c0_33 : Index := 0#32
  let c1024 : Index := 1024#32
  ![v59.toNat, 0, 1024]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v71 : Index := Scalar.indexCast v0
  let c0_41 : Index := 0#32
  let c1536 : Index := 1536#32
  ![v71.toNat, 0, 1536]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v83 : Index := Scalar.indexCast v0
  let c0_49 : Index := 0#32
  let c2048 : Index := 2048#32
  ![v83.toNat, 0, 2048]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v95 : Index := Scalar.indexCast v0
  let c0_57 : Index := 0#32
  let c2560 : Index := 2560#32
  ![v95.toNat, 0, 2560]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v107 : Index := Scalar.indexCast v0
  let c0_65 : Index := 0#32
  let c3072 : Index := 3072#32
  ![v107.toNat, 0, 3072]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v119 : Index := Scalar.indexCast v0
  let c0_73 : Index := 0#32
  let c3584 : Index := 3584#32
  ![v119.toNat, 0, 3584]
def k0_cond5 (i : grid0.Coords) : BitVec 1 :=
  let arg1 : BitVec 32 := BitVec.ofNat 32 (i 1).val
  let c15_i32 : BitVec 32 := 15#32
  let v131 : BitVec 1 := Scalar.cmpi .eq arg1 c15_i32
  let v132 : BitVec 32 := Scalar.extui v131
  let c0_i32_81 : BitVec 32 := 0#32
  let v133 : BitVec 1 := Scalar.cmpi .ne v132 c0_i32_81
  v133

def k0_off15 (i : grid0.Coords) : Fin 1 → Nat :=
  let arg0 : BitVec 32 := BitVec.ofNat 32 (i 0).val
  let c4_i32 : BitVec 32 := 4#32
  let v134 : BitVec 32 := Scalar.muli arg0 c4_i32
  let v135 : Index := Scalar.indexCast v134
  ![v135.toNat]
def k0_off16 (i : grid0.Coords) : Fin 1 → Nat :=
  let arg0 : BitVec 32 := BitVec.ofNat 32 (i 0).val
  let c1_i32_82 : BitVec 32 := 1#32
  let v137 : BitVec 32 := Scalar.addi arg0 c1_i32_82
  let c4_i32_83 : BitVec 32 := 4#32
  let v138 : BitVec 32 := Scalar.muli v137 c4_i32_83
  let v139 : Index := Scalar.indexCast v138
  ![v139.toNat]
@[reducible] def k0_t1_loop (v136 : BitVec 32) (v140 : BitVec 32) : Scf.Loop 32 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_101 : BitVec 32 := 1#32
  ⟨v157, v181, c1_i32_101⟩

def k0_off17 (v136 : BitVec 32) (v140 : BitVec 32) (k0_t1 : Fin (k0_t1_loop v136 v140).trips) : Fin 2 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let c256_i32_107 : BitVec 32 := 256#32
  let v189 : BitVec 32 := Scalar.muli arg18 c256_i32_107
  let c0_i32_108 : BitVec 32 := 0#32
  ![v189.toNat, 0]
def k0_off18 (i : grid0.Coords) : Fin 1 → Nat :=
  let arg0 : BitVec 32 := BitVec.ofNat 32 (i 0).val
  let c4_i32_111 : BitVec 32 := 4#32
  let v193 : BitVec 32 := Scalar.muli arg0 c4_i32_111
  let c0_i32_112 : BitVec 32 := 0#32
  let v194 : BitVec 32 := Scalar.addi v193 c0_i32_112
  let v195 : Index := Scalar.indexCast v194
  ![v195.toNat]
def k0_off19 (i : grid0.Coords) : Fin 1 → Nat :=
  let arg0 : BitVec 32 := BitVec.ofNat 32 (i 0).val
  let c4_i32_113 : BitVec 32 := 4#32
  let v197 : BitVec 32 := Scalar.muli arg0 c4_i32_113
  let c0_i32_114 : BitVec 32 := 0#32
  let v198 : BitVec 32 := Scalar.addi v197 c0_i32_114
  let c1_i32_115 : BitVec 32 := 1#32
  let v199 : BitVec 32 := Scalar.addi v198 c1_i32_115
  let v200 : Index := Scalar.indexCast v199
  ![v200.toNat]
def k0_off20 (v136 : BitVec 32) (v140 : BitVec 32) (k0_t1 : Fin (k0_t1_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let v274 : Index := Scalar.indexCast arg18
  let c0_148 : Index := 0#32
  let c0_149 : Index := 0#32
  ![v274.toNat, 0, 0]
def k0_cond6 (v136 : BitVec 32) (v140 : BitVec 32) (k0_t1 : Fin (k0_t1_loop v136 v140).trips) (v196 : BitVec 32) (v201 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let c1_i32_116 : BitVec 32 := 1#32
  let v202 : BitVec 32 := Scalar.addi arg18 c1_i32_116
  let c256_i32_117 : BitVec 32 := 256#32
  let v203 : BitVec 32 := Scalar.muli v202 c256_i32_117
  let v204 : BitVec 1 := Scalar.cmpi .slt v196 v203
  let c256_i32_118 : BitVec 32 := 256#32
  let v205 : BitVec 32 := Scalar.muli arg18 c256_i32_118
  let v206 : BitVec 1 := Scalar.cmpi .sgt v201 v205
  let v207 : BitVec 1 := Scalar.andi v204 v206
  let v208 : BitVec 1 := Scalar.cmpi .sgt v201 v196
  let v209 : BitVec 1 := Scalar.andi v207 v208
  let v210 : BitVec 32 := Scalar.extui v209
  let c0_i32_119 : BitVec 32 := 0#32
  let v211 : BitVec 1 := Scalar.cmpi .ne v210 c0_i32_119
  v211

def k0_chk2 (i : grid0.Coords) (v136 : BitVec 32) (v140 : BitVec 32) (k0_t1 : Fin (k0_t1_loop v136 v140).trips) (v196 : BitVec 32) (v201 : BitVec 32) : Prop :=
  (∀ (k0_h5 : k0_cond5 i = 1#1), ∀ (k0_h6 : k0_cond6 v136 v140 k0_t1 v196 v201 = 1#1), ∀ a, (k0_off20 v136 v140 k0_t1) a + S1x1x256.size a ≤ S64x1x256.size a)
theorem k0_off20_inb : ∀ (i : grid0.Coords) (v136 : BitVec 32) (v140 : BitVec 32) (k0_t1 : Fin (k0_t1_loop v136 v140).trips) (v196 : BitVec 32) (v201 : BitVec 32) (k0_hw2 : k0_chk2 i v136 v140 k0_t1 v196 v201), ∀ (k0_h5 : k0_cond5 i = 1#1), ∀ (k0_h6 : k0_cond6 v136 v140 k0_t1 v196 v201 = 1#1), ∀ a, (k0_off20 v136 v140 k0_t1) a + S1x1x256.size a ≤ S64x1x256.size a := fun i v136 v140 k0_t1 v196 v201 k0_hw2 k0_h5 k0_h6 => k0_hw2 k0_h5 k0_h6

def k0_off21 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c0_153 : Index := 0#32
  let c0_154 : Index := 0#32
  ![v287.toNat, 0, 0]
def k0_off22 (i : grid0.Coords) : Fin 1 → Nat :=
  let arg0 : BitVec 32 := BitVec.ofNat 32 (i 0).val
  let c4_i32_120 : BitVec 32 := 4#32
  let v212 : BitVec 32 := Scalar.muli arg0 c4_i32_120
  let c1_i32_121 : BitVec 32 := 1#32
  let v213 : BitVec 32 := Scalar.addi v212 c1_i32_121
  let v214 : Index := Scalar.indexCast v213
  ![v214.toNat]
def k0_off23 (i : grid0.Coords) : Fin 1 → Nat :=
  let arg0 : BitVec 32 := BitVec.ofNat 32 (i 0).val
  let c4_i32_122 : BitVec 32 := 4#32
  let v216 : BitVec 32 := Scalar.muli arg0 c4_i32_122
  let c1_i32_123 : BitVec 32 := 1#32
  let v217 : BitVec 32 := Scalar.addi v216 c1_i32_123
  let c1_i32_124 : BitVec 32 := 1#32
  let v218 : BitVec 32 := Scalar.addi v217 c1_i32_124
  let v219 : Index := Scalar.indexCast v218
  ![v219.toNat]
def k0_off24 (v136 : BitVec 32) (v140 : BitVec 32) (k0_t1 : Fin (k0_t1_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let v274 : Index := Scalar.indexCast arg18
  let c0_148 : Index := 0#32
  let c0_149 : Index := 0#32
  ![v274.toNat, 0, 0]
def k0_cond7 (v136 : BitVec 32) (v140 : BitVec 32) (k0_t1 : Fin (k0_t1_loop v136 v140).trips) (v215 : BitVec 32) (v220 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let c1_i32_125 : BitVec 32 := 1#32
  let v221 : BitVec 32 := Scalar.addi arg18 c1_i32_125
  let c256_i32_126 : BitVec 32 := 256#32
  let v222 : BitVec 32 := Scalar.muli v221 c256_i32_126
  let v223 : BitVec 1 := Scalar.cmpi .slt v215 v222
  let c256_i32_127 : BitVec 32 := 256#32
  let v224 : BitVec 32 := Scalar.muli arg18 c256_i32_127
  let v225 : BitVec 1 := Scalar.cmpi .sgt v220 v224
  let v226 : BitVec 1 := Scalar.andi v223 v225
  let v227 : BitVec 1 := Scalar.cmpi .sgt v220 v215
  let v228 : BitVec 1 := Scalar.andi v226 v227
  let v229 : BitVec 32 := Scalar.extui v228
  let c0_i32_128 : BitVec 32 := 0#32
  let v230 : BitVec 1 := Scalar.cmpi .ne v229 c0_i32_128
  v230

def k0_chk3 (i : grid0.Coords) (v136 : BitVec 32) (v140 : BitVec 32) (k0_t1 : Fin (k0_t1_loop v136 v140).trips) (v215 : BitVec 32) (v220 : BitVec 32) : Prop :=
  (∀ (k0_h5 : k0_cond5 i = 1#1), ∀ (k0_h7 : k0_cond7 v136 v140 k0_t1 v215 v220 = 1#1), ∀ a, (k0_off24 v136 v140 k0_t1) a + S1x1x256.size a ≤ S64x1x256.size a)
theorem k0_off24_inb : ∀ (i : grid0.Coords) (v136 : BitVec 32) (v140 : BitVec 32) (k0_t1 : Fin (k0_t1_loop v136 v140).trips) (v215 : BitVec 32) (v220 : BitVec 32) (k0_hw3 : k0_chk3 i v136 v140 k0_t1 v215 v220), ∀ (k0_h5 : k0_cond5 i = 1#1), ∀ (k0_h7 : k0_cond7 v136 v140 k0_t1 v215 v220 = 1#1), ∀ a, (k0_off24 v136 v140 k0_t1) a + S1x1x256.size a ≤ S64x1x256.size a := fun i v136 v140 k0_t1 v215 v220 k0_hw3 k0_h5 k0_h7 => k0_hw3 k0_h5 k0_h7

def k0_off25 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c256 : Index := 256#32
  let c0_153 : Index := 0#32
  ![v287.toNat, 256, 0]
def k0_off26 (i : grid0.Coords) : Fin 1 → Nat :=
  let arg0 : BitVec 32 := BitVec.ofNat 32 (i 0).val
  let c4_i32_129 : BitVec 32 := 4#32
  let v231 : BitVec 32 := Scalar.muli arg0 c4_i32_129
  let c2_i32_130 : BitVec 32 := 2#32
  let v232 : BitVec 32 := Scalar.addi v231 c2_i32_130
  let v233 : Index := Scalar.indexCast v232
  ![v233.toNat]
def k0_off27 (i : grid0.Coords) : Fin 1 → Nat :=
  let arg0 : BitVec 32 := BitVec.ofNat 32 (i 0).val
  let c4_i32_131 : BitVec 32 := 4#32
  let v235 : BitVec 32 := Scalar.muli arg0 c4_i32_131
  let c2_i32_132 : BitVec 32 := 2#32
  let v236 : BitVec 32 := Scalar.addi v235 c2_i32_132
  let c1_i32_133 : BitVec 32 := 1#32
  let v237 : BitVec 32 := Scalar.addi v236 c1_i32_133
  let v238 : Index := Scalar.indexCast v237
  ![v238.toNat]
def k0_off28 (v136 : BitVec 32) (v140 : BitVec 32) (k0_t1 : Fin (k0_t1_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let v274 : Index := Scalar.indexCast arg18
  let c0_147 : Index := 0#32
  let c0_148 : Index := 0#32
  ![v274.toNat, 0, 0]
def k0_cond8 (v136 : BitVec 32) (v140 : BitVec 32) (k0_t1 : Fin (k0_t1_loop v136 v140).trips) (v234 : BitVec 32) (v239 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let c1_i32_134 : BitVec 32 := 1#32
  let v240 : BitVec 32 := Scalar.addi arg18 c1_i32_134
  let c256_i32_135 : BitVec 32 := 256#32
  let v241 : BitVec 32 := Scalar.muli v240 c256_i32_135
  let v242 : BitVec 1 := Scalar.cmpi .slt v234 v241
  let c256_i32_136 : BitVec 32 := 256#32
  let v243 : BitVec 32 := Scalar.muli arg18 c256_i32_136
  let v244 : BitVec 1 := Scalar.cmpi .sgt v239 v243
  let v245 : BitVec 1 := Scalar.andi v242 v244
  let v246 : BitVec 1 := Scalar.cmpi .sgt v239 v234
  let v247 : BitVec 1 := Scalar.andi v245 v246
  let v248 : BitVec 32 := Scalar.extui v247
  let c0_i32_137 : BitVec 32 := 0#32
  let v249 : BitVec 1 := Scalar.cmpi .ne v248 c0_i32_137
  v249

def k0_chk4 (i : grid0.Coords) (v136 : BitVec 32) (v140 : BitVec 32) (k0_t1 : Fin (k0_t1_loop v136 v140).trips) (v234 : BitVec 32) (v239 : BitVec 32) : Prop :=
  (∀ (k0_h5 : k0_cond5 i = 1#1), ∀ (k0_h8 : k0_cond8 v136 v140 k0_t1 v234 v239 = 1#1), ∀ a, (k0_off28 v136 v140 k0_t1) a + S1x1x256.size a ≤ S64x1x256.size a)
theorem k0_off28_inb : ∀ (i : grid0.Coords) (v136 : BitVec 32) (v140 : BitVec 32) (k0_t1 : Fin (k0_t1_loop v136 v140).trips) (v234 : BitVec 32) (v239 : BitVec 32) (k0_hw4 : k0_chk4 i v136 v140 k0_t1 v234 v239), ∀ (k0_h5 : k0_cond5 i = 1#1), ∀ (k0_h8 : k0_cond8 v136 v140 k0_t1 v234 v239 = 1#1), ∀ a, (k0_off28 v136 v140 k0_t1) a + S1x1x256.size a ≤ S64x1x256.size a := fun i v136 v140 k0_t1 v234 v239 k0_hw4 k0_h5 k0_h8 => k0_hw4 k0_h5 k0_h8

def k0_off29 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c512_152 : Index := 512#32
  let c0_153 : Index := 0#32
  ![v287.toNat, 512, 0]
def k0_off30 (i : grid0.Coords) : Fin 1 → Nat :=
  let arg0 : BitVec 32 := BitVec.ofNat 32 (i 0).val
  let c4_i32_138 : BitVec 32 := 4#32
  let v250 : BitVec 32 := Scalar.muli arg0 c4_i32_138
  let c3_i32 : BitVec 32 := 3#32
  let v251 : BitVec 32 := Scalar.addi v250 c3_i32
  let v252 : Index := Scalar.indexCast v251
  ![v252.toNat]
def k0_off31 (i : grid0.Coords) : Fin 1 → Nat :=
  let arg0 : BitVec 32 := BitVec.ofNat 32 (i 0).val
  let c4_i32_139 : BitVec 32 := 4#32
  let v254 : BitVec 32 := Scalar.muli arg0 c4_i32_139
  let c3_i32_140 : BitVec 32 := 3#32
  let v255 : BitVec 32 := Scalar.addi v254 c3_i32_140
  let c1_i32_141 : BitVec 32 := 1#32
  let v256 : BitVec 32 := Scalar.addi v255 c1_i32_141
  let v257 : Index := Scalar.indexCast v256
  ![v257.toNat]
def k0_off32 (v136 : BitVec 32) (v140 : BitVec 32) (k0_t1 : Fin (k0_t1_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let v274 : Index := Scalar.indexCast arg18
  let c0_147 : Index := 0#32
  let c0_148 : Index := 0#32
  ![v274.toNat, 0, 0]
def k0_cond9 (v136 : BitVec 32) (v140 : BitVec 32) (k0_t1 : Fin (k0_t1_loop v136 v140).trips) (v253 : BitVec 32) (v258 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c1_i32_101 : BitVec 32 := 1#32
  let arg18 : BitVec 32 := Scf.iv v157 c1_i32_101 k0_t1
  let c1_i32_142 : BitVec 32 := 1#32
  let v259 : BitVec 32 := Scalar.addi arg18 c1_i32_142
  let c256_i32_143 : BitVec 32 := 256#32
  let v260 : BitVec 32 := Scalar.muli v259 c256_i32_143
  let v261 : BitVec 1 := Scalar.cmpi .slt v253 v260
  let c256_i32_144 : BitVec 32 := 256#32
  let v262 : BitVec 32 := Scalar.muli arg18 c256_i32_144
  let v263 : BitVec 1 := Scalar.cmpi .sgt v258 v262
  let v264 : BitVec 1 := Scalar.andi v261 v263
  let v265 : BitVec 1 := Scalar.cmpi .sgt v258 v253
  let v266 : BitVec 1 := Scalar.andi v264 v265
  let v267 : BitVec 32 := Scalar.extui v266
  let c0_i32_145 : BitVec 32 := 0#32
  let v268 : BitVec 1 := Scalar.cmpi .ne v267 c0_i32_145
  v268

def k0_chk5 (i : grid0.Coords) (v136 : BitVec 32) (v140 : BitVec 32) (k0_t1 : Fin (k0_t1_loop v136 v140).trips) (v253 : BitVec 32) (v258 : BitVec 32) : Prop :=
  (∀ (k0_h5 : k0_cond5 i = 1#1), ∀ (k0_h9 : k0_cond9 v136 v140 k0_t1 v253 v258 = 1#1), ∀ a, (k0_off32 v136 v140 k0_t1) a + S1x1x256.size a ≤ S64x1x256.size a)
theorem k0_off32_inb : ∀ (i : grid0.Coords) (v136 : BitVec 32) (v140 : BitVec 32) (k0_t1 : Fin (k0_t1_loop v136 v140).trips) (v253 : BitVec 32) (v258 : BitVec 32) (k0_hw5 : k0_chk5 i v136 v140 k0_t1 v253 v258), ∀ (k0_h5 : k0_cond5 i = 1#1), ∀ (k0_h9 : k0_cond9 v136 v140 k0_t1 v253 v258 = 1#1), ∀ a, (k0_off32 v136 v140 k0_t1) a + S1x1x256.size a ≤ S64x1x256.size a := fun i v136 v140 k0_t1 v253 v258 k0_hw5 k0_h5 k0_h9 => k0_hw5 k0_h5 k0_h9

def k0_off33 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c768 : Index := 768#32
  let c0_152 : Index := 0#32
  ![v287.toNat, 768, 0]
@[reducible] def k0_t2_loop (v136 : BitVec 32) (v140 : BitVec 32) : Scf.Loop 32 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let v178 : BitVec 32 := Scalar.addi v157 v177
  let c1_i32_102 : BitVec 32 := 1#32
  ⟨v181, v178, c1_i32_102⟩
def k0_off34 (v136 : BitVec 32) (v140 : BitVec 32) (k0_t2 : Fin (k0_t2_loop v136 v140).trips) : Fin 2 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let c256_i32_107 : BitVec 32 := 256#32
  let v189 : BitVec 32 := Scalar.muli arg18 c256_i32_107
  let c0_i32_108 : BitVec 32 := 0#32
  ![v189.toNat, 0]

def k0_chk1 (i : grid0.Coords) (v136 : BitVec 32) (v140 : BitVec 32) : Prop :=
  (∀ (k0_h5 : k0_cond5 i = 1#1), (k0_t1_loop v136 v140).OK) ∧
  (∀ k0_t1 : Fin (k0_t1_loop v136 v140).trips, ∀ (k0_h5 : k0_cond5 i = 1#1), ∀ a, (k0_off17 v136 v140 k0_t1) a + S256x4096.size a ≤ S16384x4096.size a) ∧
  (∀ k0_t1 : Fin (k0_t1_loop v136 v140).trips, ∀ (k0_h5 : k0_cond5 i = 1#1), ∀ (hinb : ∀ a, (k0_off17 v136 v140 k0_t1) a + S256x4096.size a ≤ S16384x4096.size a), (Rect.unit (s := S16384x4096) (k0_off17 v136 v140 k0_t1) S256x4096.size hinb).WholeWords (EltTy.packing .fp8e5m2)) ∧
  (∀ (k0_h5 : k0_cond5 i = 1#1), (k0_t2_loop v136 v140).OK) ∧
  (∀ k0_t2 : Fin (k0_t2_loop v136 v140).trips, ∀ (k0_h5 : k0_cond5 i = 1#1), ∀ a, (k0_off34 v136 v140 k0_t2) a + S256x4096.size a ≤ S16384x4096.size a) ∧
  (∀ k0_t2 : Fin (k0_t2_loop v136 v140).trips, ∀ (k0_h5 : k0_cond5 i = 1#1), ∀ (hinb : ∀ a, (k0_off34 v136 v140 k0_t2) a + S256x4096.size a ≤ S16384x4096.size a), (Rect.unit (s := S16384x4096) (k0_off34 v136 v140 k0_t2) S256x4096.size hinb).WholeWords (EltTy.packing .fp8e5m2))
theorem k0_t1_ok : ∀ (i : grid0.Coords) (v136 : BitVec 32) (v140 : BitVec 32) (k0_hw1 : k0_chk1 i v136 v140), ∀ (k0_h5 : k0_cond5 i = 1#1), (k0_t1_loop v136 v140).OK := fun i v136 v140 k0_hw1 k0_h5 => k0_hw1.1 k0_h5
theorem k0_off17_inb : ∀ (i : grid0.Coords) (v136 : BitVec 32) (v140 : BitVec 32) (k0_hw1 : k0_chk1 i v136 v140) (k0_t1 : Fin (k0_t1_loop v136 v140).trips), ∀ (k0_h5 : k0_cond5 i = 1#1), ∀ a, (k0_off17 v136 v140 k0_t1) a + S256x4096.size a ≤ S16384x4096.size a := fun i v136 v140 k0_hw1 k0_t1 k0_h5 => k0_hw1.2.1 k0_t1 k0_h5
theorem k0_off17_wordsfp8e5m2 : ∀ (i : grid0.Coords) (v136 : BitVec 32) (v140 : BitVec 32) (k0_hw1 : k0_chk1 i v136 v140) (k0_t1 : Fin (k0_t1_loop v136 v140).trips), ∀ (k0_h5 : k0_cond5 i = 1#1), (Rect.unit (s := S16384x4096) (k0_off17 v136 v140 k0_t1) S256x4096.size (k0_off17_inb i v136 v140 k0_hw1 k0_t1 k0_h5)).WholeWords (EltTy.packing .fp8e5m2) := fun i v136 v140 k0_hw1 k0_t1 k0_h5 => k0_hw1.2.2.1 k0_t1 k0_h5 (k0_off17_inb i v136 v140 k0_hw1 k0_t1 k0_h5)
theorem k0_t2_ok : ∀ (i : grid0.Coords) (v136 : BitVec 32) (v140 : BitVec 32) (k0_hw1 : k0_chk1 i v136 v140), ∀ (k0_h5 : k0_cond5 i = 1#1), (k0_t2_loop v136 v140).OK := fun i v136 v140 k0_hw1 k0_h5 => k0_hw1.2.2.2.1 k0_h5
theorem k0_off34_inb : ∀ (i : grid0.Coords) (v136 : BitVec 32) (v140 : BitVec 32) (k0_hw1 : k0_chk1 i v136 v140) (k0_t2 : Fin (k0_t2_loop v136 v140).trips), ∀ (k0_h5 : k0_cond5 i = 1#1), ∀ a, (k0_off34 v136 v140 k0_t2) a + S256x4096.size a ≤ S16384x4096.size a := fun i v136 v140 k0_hw1 k0_t2 k0_h5 => k0_hw1.2.2.2.2.1 k0_t2 k0_h5
theorem k0_off34_wordsfp8e5m2 : ∀ (i : grid0.Coords) (v136 : BitVec 32) (v140 : BitVec 32) (k0_hw1 : k0_chk1 i v136 v140) (k0_t2 : Fin (k0_t2_loop v136 v140).trips), ∀ (k0_h5 : k0_cond5 i = 1#1), (Rect.unit (s := S16384x4096) (k0_off34 v136 v140 k0_t2) S256x4096.size (k0_off34_inb i v136 v140 k0_hw1 k0_t2 k0_h5)).WholeWords (EltTy.packing .fp8e5m2) := fun i v136 v140 k0_hw1 k0_t2 k0_h5 => k0_hw1.2.2.2.2.2 k0_t2 k0_h5 (k0_off34_inb i v136 v140 k0_hw1 k0_t2 k0_h5)

def k0_off35 (i : grid0.Coords) : Fin 1 → Nat :=
  let arg0 : BitVec 32 := BitVec.ofNat 32 (i 0).val
  let c4_i32_111 : BitVec 32 := 4#32
  let v193 : BitVec 32 := Scalar.muli arg0 c4_i32_111
  let c0_i32_112 : BitVec 32 := 0#32
  let v194 : BitVec 32 := Scalar.addi v193 c0_i32_112
  let v195 : Index := Scalar.indexCast v194
  ![v195.toNat]
def k0_off36 (i : grid0.Coords) : Fin 1 → Nat :=
  let arg0 : BitVec 32 := BitVec.ofNat 32 (i 0).val
  let c4_i32_113 : BitVec 32 := 4#32
  let v197 : BitVec 32 := Scalar.muli arg0 c4_i32_113
  let c0_i32_114 : BitVec 32 := 0#32
  let v198 : BitVec 32 := Scalar.addi v197 c0_i32_114
  let c1_i32_115 : BitVec 32 := 1#32
  let v199 : BitVec 32 := Scalar.addi v198 c1_i32_115
  let v200 : Index := Scalar.indexCast v199
  ![v200.toNat]
def k0_off37 (v136 : BitVec 32) (v140 : BitVec 32) (k0_t2 : Fin (k0_t2_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let v274 : Index := Scalar.indexCast arg18
  let c0_148 : Index := 0#32
  let c0_149 : Index := 0#32
  ![v274.toNat, 0, 0]
def k0_cond10 (v136 : BitVec 32) (v140 : BitVec 32) (k0_t2 : Fin (k0_t2_loop v136 v140).trips) (v196 : BitVec 32) (v201 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let c1_i32_116 : BitVec 32 := 1#32
  let v202 : BitVec 32 := Scalar.addi arg18 c1_i32_116
  let c256_i32_117 : BitVec 32 := 256#32
  let v203 : BitVec 32 := Scalar.muli v202 c256_i32_117
  let v204 : BitVec 1 := Scalar.cmpi .slt v196 v203
  let c256_i32_118 : BitVec 32 := 256#32
  let v205 : BitVec 32 := Scalar.muli arg18 c256_i32_118
  let v206 : BitVec 1 := Scalar.cmpi .sgt v201 v205
  let v207 : BitVec 1 := Scalar.andi v204 v206
  let v208 : BitVec 1 := Scalar.cmpi .sgt v201 v196
  let v209 : BitVec 1 := Scalar.andi v207 v208
  let v210 : BitVec 32 := Scalar.extui v209
  let c0_i32_119 : BitVec 32 := 0#32
  let v211 : BitVec 1 := Scalar.cmpi .ne v210 c0_i32_119
  v211

def k0_chk6 (i : grid0.Coords) (v136 : BitVec 32) (v140 : BitVec 32) (k0_t2 : Fin (k0_t2_loop v136 v140).trips) (v196 : BitVec 32) (v201 : BitVec 32) : Prop :=
  (∀ (k0_h5 : k0_cond5 i = 1#1), ∀ (k0_h10 : k0_cond10 v136 v140 k0_t2 v196 v201 = 1#1), ∀ a, (k0_off37 v136 v140 k0_t2) a + S1x1x256.size a ≤ S64x1x256.size a)
theorem k0_off37_inb : ∀ (i : grid0.Coords) (v136 : BitVec 32) (v140 : BitVec 32) (k0_t2 : Fin (k0_t2_loop v136 v140).trips) (v196 : BitVec 32) (v201 : BitVec 32) (k0_hw6 : k0_chk6 i v136 v140 k0_t2 v196 v201), ∀ (k0_h5 : k0_cond5 i = 1#1), ∀ (k0_h10 : k0_cond10 v136 v140 k0_t2 v196 v201 = 1#1), ∀ a, (k0_off37 v136 v140 k0_t2) a + S1x1x256.size a ≤ S64x1x256.size a := fun i v136 v140 k0_t2 v196 v201 k0_hw6 k0_h5 k0_h10 => k0_hw6 k0_h5 k0_h10

def k0_off38 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c0_153 : Index := 0#32
  let c0_154 : Index := 0#32
  ![v287.toNat, 0, 0]
def k0_off39 (i : grid0.Coords) : Fin 1 → Nat :=
  let arg0 : BitVec 32 := BitVec.ofNat 32 (i 0).val
  let c4_i32_120 : BitVec 32 := 4#32
  let v212 : BitVec 32 := Scalar.muli arg0 c4_i32_120
  let c1_i32_121 : BitVec 32 := 1#32
  let v213 : BitVec 32 := Scalar.addi v212 c1_i32_121
  let v214 : Index := Scalar.indexCast v213
  ![v214.toNat]
def k0_off40 (i : grid0.Coords) : Fin 1 → Nat :=
  let arg0 : BitVec 32 := BitVec.ofNat 32 (i 0).val
  let c4_i32_122 : BitVec 32 := 4#32
  let v216 : BitVec 32 := Scalar.muli arg0 c4_i32_122
  let c1_i32_123 : BitVec 32 := 1#32
  let v217 : BitVec 32 := Scalar.addi v216 c1_i32_123
  let c1_i32_124 : BitVec 32 := 1#32
  let v218 : BitVec 32 := Scalar.addi v217 c1_i32_124
  let v219 : Index := Scalar.indexCast v218
  ![v219.toNat]
def k0_off41 (v136 : BitVec 32) (v140 : BitVec 32) (k0_t2 : Fin (k0_t2_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let v274 : Index := Scalar.indexCast arg18
  let c0_148 : Index := 0#32
  let c0_149 : Index := 0#32
  ![v274.toNat, 0, 0]
def k0_cond11 (v136 : BitVec 32) (v140 : BitVec 32) (k0_t2 : Fin (k0_t2_loop v136 v140).trips) (v215 : BitVec 32) (v220 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let c1_i32_125 : BitVec 32 := 1#32
  let v221 : BitVec 32 := Scalar.addi arg18 c1_i32_125
  let c256_i32_126 : BitVec 32 := 256#32
  let v222 : BitVec 32 := Scalar.muli v221 c256_i32_126
  let v223 : BitVec 1 := Scalar.cmpi .slt v215 v222
  let c256_i32_127 : BitVec 32 := 256#32
  let v224 : BitVec 32 := Scalar.muli arg18 c256_i32_127
  let v225 : BitVec 1 := Scalar.cmpi .sgt v220 v224
  let v226 : BitVec 1 := Scalar.andi v223 v225
  let v227 : BitVec 1 := Scalar.cmpi .sgt v220 v215
  let v228 : BitVec 1 := Scalar.andi v226 v227
  let v229 : BitVec 32 := Scalar.extui v228
  let c0_i32_128 : BitVec 32 := 0#32
  let v230 : BitVec 1 := Scalar.cmpi .ne v229 c0_i32_128
  v230

def k0_chk7 (i : grid0.Coords) (v136 : BitVec 32) (v140 : BitVec 32) (k0_t2 : Fin (k0_t2_loop v136 v140).trips) (v215 : BitVec 32) (v220 : BitVec 32) : Prop :=
  (∀ (k0_h5 : k0_cond5 i = 1#1), ∀ (k0_h11 : k0_cond11 v136 v140 k0_t2 v215 v220 = 1#1), ∀ a, (k0_off41 v136 v140 k0_t2) a + S1x1x256.size a ≤ S64x1x256.size a)
theorem k0_off41_inb : ∀ (i : grid0.Coords) (v136 : BitVec 32) (v140 : BitVec 32) (k0_t2 : Fin (k0_t2_loop v136 v140).trips) (v215 : BitVec 32) (v220 : BitVec 32) (k0_hw7 : k0_chk7 i v136 v140 k0_t2 v215 v220), ∀ (k0_h5 : k0_cond5 i = 1#1), ∀ (k0_h11 : k0_cond11 v136 v140 k0_t2 v215 v220 = 1#1), ∀ a, (k0_off41 v136 v140 k0_t2) a + S1x1x256.size a ≤ S64x1x256.size a := fun i v136 v140 k0_t2 v215 v220 k0_hw7 k0_h5 k0_h11 => k0_hw7 k0_h5 k0_h11

def k0_off42 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c256 : Index := 256#32
  let c0_153 : Index := 0#32
  ![v287.toNat, 256, 0]
def k0_off43 (i : grid0.Coords) : Fin 1 → Nat :=
  let arg0 : BitVec 32 := BitVec.ofNat 32 (i 0).val
  let c4_i32_129 : BitVec 32 := 4#32
  let v231 : BitVec 32 := Scalar.muli arg0 c4_i32_129
  let c2_i32_130 : BitVec 32 := 2#32
  let v232 : BitVec 32 := Scalar.addi v231 c2_i32_130
  let v233 : Index := Scalar.indexCast v232
  ![v233.toNat]
def k0_off44 (i : grid0.Coords) : Fin 1 → Nat :=
  let arg0 : BitVec 32 := BitVec.ofNat 32 (i 0).val
  let c4_i32_131 : BitVec 32 := 4#32
  let v235 : BitVec 32 := Scalar.muli arg0 c4_i32_131
  let c2_i32_132 : BitVec 32 := 2#32
  let v236 : BitVec 32 := Scalar.addi v235 c2_i32_132
  let c1_i32_133 : BitVec 32 := 1#32
  let v237 : BitVec 32 := Scalar.addi v236 c1_i32_133
  let v238 : Index := Scalar.indexCast v237
  ![v238.toNat]
def k0_off45 (v136 : BitVec 32) (v140 : BitVec 32) (k0_t2 : Fin (k0_t2_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let v274 : Index := Scalar.indexCast arg18
  let c0_147 : Index := 0#32
  let c0_148 : Index := 0#32
  ![v274.toNat, 0, 0]
def k0_cond12 (v136 : BitVec 32) (v140 : BitVec 32) (k0_t2 : Fin (k0_t2_loop v136 v140).trips) (v234 : BitVec 32) (v239 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let c1_i32_134 : BitVec 32 := 1#32
  let v240 : BitVec 32 := Scalar.addi arg18 c1_i32_134
  let c256_i32_135 : BitVec 32 := 256#32
  let v241 : BitVec 32 := Scalar.muli v240 c256_i32_135
  let v242 : BitVec 1 := Scalar.cmpi .slt v234 v241
  let c256_i32_136 : BitVec 32 := 256#32
  let v243 : BitVec 32 := Scalar.muli arg18 c256_i32_136
  let v244 : BitVec 1 := Scalar.cmpi .sgt v239 v243
  let v245 : BitVec 1 := Scalar.andi v242 v244
  let v246 : BitVec 1 := Scalar.cmpi .sgt v239 v234
  let v247 : BitVec 1 := Scalar.andi v245 v246
  let v248 : BitVec 32 := Scalar.extui v247
  let c0_i32_137 : BitVec 32 := 0#32
  let v249 : BitVec 1 := Scalar.cmpi .ne v248 c0_i32_137
  v249

def k0_chk8 (i : grid0.Coords) (v136 : BitVec 32) (v140 : BitVec 32) (k0_t2 : Fin (k0_t2_loop v136 v140).trips) (v234 : BitVec 32) (v239 : BitVec 32) : Prop :=
  (∀ (k0_h5 : k0_cond5 i = 1#1), ∀ (k0_h12 : k0_cond12 v136 v140 k0_t2 v234 v239 = 1#1), ∀ a, (k0_off45 v136 v140 k0_t2) a + S1x1x256.size a ≤ S64x1x256.size a)
theorem k0_off45_inb : ∀ (i : grid0.Coords) (v136 : BitVec 32) (v140 : BitVec 32) (k0_t2 : Fin (k0_t2_loop v136 v140).trips) (v234 : BitVec 32) (v239 : BitVec 32) (k0_hw8 : k0_chk8 i v136 v140 k0_t2 v234 v239), ∀ (k0_h5 : k0_cond5 i = 1#1), ∀ (k0_h12 : k0_cond12 v136 v140 k0_t2 v234 v239 = 1#1), ∀ a, (k0_off45 v136 v140 k0_t2) a + S1x1x256.size a ≤ S64x1x256.size a := fun i v136 v140 k0_t2 v234 v239 k0_hw8 k0_h5 k0_h12 => k0_hw8 k0_h5 k0_h12

def k0_off46 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c512_152 : Index := 512#32
  let c0_153 : Index := 0#32
  ![v287.toNat, 512, 0]
def k0_off47 (i : grid0.Coords) : Fin 1 → Nat :=
  let arg0 : BitVec 32 := BitVec.ofNat 32 (i 0).val
  let c4_i32_138 : BitVec 32 := 4#32
  let v250 : BitVec 32 := Scalar.muli arg0 c4_i32_138
  let c3_i32 : BitVec 32 := 3#32
  let v251 : BitVec 32 := Scalar.addi v250 c3_i32
  let v252 : Index := Scalar.indexCast v251
  ![v252.toNat]
def k0_off48 (i : grid0.Coords) : Fin 1 → Nat :=
  let arg0 : BitVec 32 := BitVec.ofNat 32 (i 0).val
  let c4_i32_139 : BitVec 32 := 4#32
  let v254 : BitVec 32 := Scalar.muli arg0 c4_i32_139
  let c3_i32_140 : BitVec 32 := 3#32
  let v255 : BitVec 32 := Scalar.addi v254 c3_i32_140
  let c1_i32_141 : BitVec 32 := 1#32
  let v256 : BitVec 32 := Scalar.addi v255 c1_i32_141
  let v257 : Index := Scalar.indexCast v256
  ![v257.toNat]
def k0_off49 (v136 : BitVec 32) (v140 : BitVec 32) (k0_t2 : Fin (k0_t2_loop v136 v140).trips) : Fin 3 → Nat :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let v274 : Index := Scalar.indexCast arg18
  let c0_147 : Index := 0#32
  let c0_148 : Index := 0#32
  ![v274.toNat, 0, 0]
def k0_cond13 (v136 : BitVec 32) (v140 : BitVec 32) (k0_t2 : Fin (k0_t2_loop v136 v140).trips) (v253 : BitVec 32) (v258 : BitVec 32) : BitVec 1 :=
  let c0_i32_84 : BitVec 32 := 0#32
  let v142 : BitVec 1 := Scalar.cmpi .sgt v136 c0_i32_84
  let v143 : BitVec 32 := Scalar.extui v142
  let c0_i32_85 : BitVec 32 := 0#32
  let v144 : BitVec 1 := Scalar.cmpi .slt v136 c0_i32_85
  let v145 : BitVec 32 := Scalar.extui v144
  let v146 : BitVec 32 := Scalar.subi v143 v145
  let c256_i32 : BitVec 32 := 256#32
  let c0_i32_86 : BitVec 32 := 0#32
  let v147 : BitVec 1 := Scalar.cmpi .sgt c256_i32 c0_i32_86
  let v148 : BitVec 32 := Scalar.extui v147
  let c0_i32_87 : BitVec 32 := 0#32
  let v149 : BitVec 1 := Scalar.cmpi .slt c256_i32 c0_i32_87
  let v150 : BitVec 32 := Scalar.extui v149
  let v151 : BitVec 32 := Scalar.subi v148 v150
  let v152 : BitVec 1 := Scalar.cmpi .ne v146 v151
  let v153 : BitVec 32 := Scalar.remsi v136 c256_i32
  let c0_i32_88 : BitVec 32 := 0#32
  let v154 : BitVec 1 := Scalar.cmpi .ne v153 c0_i32_88
  let v155 : BitVec 1 := Scalar.andi v152 v154
  let v141 : BitVec 32 := Scalar.divsi v136 c256_i32
  let c1_i32_89 : BitVec 32 := 1#32
  let v156 : BitVec 32 := Scalar.subi v141 c1_i32_89
  let v157 : BitVec 32 := Scalar.select v155 v156 v141
  let c256_i32_90 : BitVec 32 := 256#32
  let v158 : BitVec 32 := Scalar.addi v140 c256_i32_90
  let c1_i32_91 : BitVec 32 := 1#32
  let v159 : BitVec 32 := Scalar.subi v158 c1_i32_91
  let c0_i32_93 : BitVec 32 := 0#32
  let v161 : BitVec 1 := Scalar.cmpi .sgt v159 c0_i32_93
  let v162 : BitVec 32 := Scalar.extui v161
  let c0_i32_94 : BitVec 32 := 0#32
  let v163 : BitVec 1 := Scalar.cmpi .slt v159 c0_i32_94
  let v164 : BitVec 32 := Scalar.extui v163
  let v165 : BitVec 32 := Scalar.subi v162 v164
  let c256_i32_92 : BitVec 32 := 256#32
  let c0_i32_95 : BitVec 32 := 0#32
  let v166 : BitVec 1 := Scalar.cmpi .sgt c256_i32_92 c0_i32_95
  let v167 : BitVec 32 := Scalar.extui v166
  let c0_i32_96 : BitVec 32 := 0#32
  let v168 : BitVec 1 := Scalar.cmpi .slt c256_i32_92 c0_i32_96
  let v169 : BitVec 32 := Scalar.extui v168
  let v170 : BitVec 32 := Scalar.subi v167 v169
  let v171 : BitVec 1 := Scalar.cmpi .ne v165 v170
  let v172 : BitVec 32 := Scalar.remsi v159 c256_i32_92
  let c0_i32_97 : BitVec 32 := 0#32
  let v173 : BitVec 1 := Scalar.cmpi .ne v172 c0_i32_97
  let v174 : BitVec 1 := Scalar.andi v171 v173
  let v160 : BitVec 32 := Scalar.divsi v159 c256_i32_92
  let c1_i32_98 : BitVec 32 := 1#32
  let v175 : BitVec 32 := Scalar.subi v160 c1_i32_98
  let v176 : BitVec 32 := Scalar.select v174 v175 v160
  let v177 : BitVec 32 := Scalar.subi v176 v157
  let c1_i32_100 : BitVec 32 := 1#32
  let v179 : BitVec 32 := Scalar.divsi v177 c1_i32_100
  let v180 : BitVec 32 := Scalar.muli v179 c1_i32_100
  let v181 : BitVec 32 := Scalar.addi v157 v180
  let c1_i32_102 : BitVec 32 := 1#32
  let arg18 : BitVec 32 := Scf.iv v181 c1_i32_102 k0_t2
  let c1_i32_142 : BitVec 32 := 1#32
  let v259 : BitVec 32 := Scalar.addi arg18 c1_i32_142
  let c256_i32_143 : BitVec 32 := 256#32
  let v260 : BitVec 32 := Scalar.muli v259 c256_i32_143
  let v261 : BitVec 1 := Scalar.cmpi .slt v253 v260
  let c256_i32_144 : BitVec 32 := 256#32
  let v262 : BitVec 32 := Scalar.muli arg18 c256_i32_144
  let v263 : BitVec 1 := Scalar.cmpi .sgt v258 v262
  let v264 : BitVec 1 := Scalar.andi v261 v263
  let v265 : BitVec 1 := Scalar.cmpi .sgt v258 v253
  let v266 : BitVec 1 := Scalar.andi v264 v265
  let v267 : BitVec 32 := Scalar.extui v266
  let c0_i32_145 : BitVec 32 := 0#32
  let v268 : BitVec 1 := Scalar.cmpi .ne v267 c0_i32_145
  v268

def k0_chk9 (i : grid0.Coords) (v136 : BitVec 32) (v140 : BitVec 32) (k0_t2 : Fin (k0_t2_loop v136 v140).trips) (v253 : BitVec 32) (v258 : BitVec 32) : Prop :=
  (∀ (k0_h5 : k0_cond5 i = 1#1), ∀ (k0_h13 : k0_cond13 v136 v140 k0_t2 v253 v258 = 1#1), ∀ a, (k0_off49 v136 v140 k0_t2) a + S1x1x256.size a ≤ S64x1x256.size a)
theorem k0_off49_inb : ∀ (i : grid0.Coords) (v136 : BitVec 32) (v140 : BitVec 32) (k0_t2 : Fin (k0_t2_loop v136 v140).trips) (v253 : BitVec 32) (v258 : BitVec 32) (k0_hw9 : k0_chk9 i v136 v140 k0_t2 v253 v258), ∀ (k0_h5 : k0_cond5 i = 1#1), ∀ (k0_h13 : k0_cond13 v136 v140 k0_t2 v253 v258 = 1#1), ∀ a, (k0_off49 v136 v140 k0_t2) a + S1x1x256.size a ≤ S64x1x256.size a := fun i v136 v140 k0_t2 v253 v258 k0_hw9 k0_h5 k0_h13 => k0_hw9 k0_h5 k0_h13

def k0_off50 (i : grid0.Coords) : Fin 3 → Nat :=
  let arg0 : BitVec 32 := BitVec.ofNat 32 (i 0).val
  let c2_i32 : BitVec 32 := 2#32
  let v0 : BitVec 32 := Scalar.remsi arg0 c2_i32
  let v287 : Index := Scalar.indexCast v0
  let c768 : Index := 768#32
  let c0_152 : Index := 0#32
  ![v287.toNat, 768, 0]
def k0_off51 (i : grid0.Coords) : Fin 2 → Nat :=
  let arg0 : BitVec 32 := BitVec.ofNat 32 (i 0).val
  let c1024_i32 : BitVec 32 := 1024#32
  let v182 : BitVec 32 := Scalar.muli arg0 c1024_i32
  let c0_i32_103 : BitVec 32 := 0#32
  ![v182.toNat, 0]
def k0_off52 (i : grid0.Coords) : Fin 3 → Nat :=
  let arg0 : BitVec 32 := BitVec.ofNat 32 (i 0).val
  let c2_i32 : BitVec 32 := 2#32
  let v0 : BitVec 32 := Scalar.remsi arg0 c2_i32
  let c0_i32_104 : BitVec 32 := 0#32
  let c0_i32_105 : BitVec 32 := 0#32
  ![v0.toNat, 0, 0]
def k0_cond14 (i : grid0.Coords) : BitVec 1 :=
  let arg0 : BitVec 32 := BitVec.ofNat 32 (i 0).val
  let c19_i32 : BitVec 32 := 19#32
  let v186 : BitVec 1 := Scalar.cmpi .eq arg0 c19_i32
  let v187 : BitVec 32 := Scalar.extui v186
  let c0_i32_106 : BitVec 32 := 0#32
  let v188 : BitVec 1 := Scalar.cmpi .ne v187 c0_i32_106
  v188

def k0_off53 (i : grid0.Coords) : Fin 2 → Nat :=
  let arg0 : BitVec 32 := BitVec.ofNat 32 (i 0).val
  let c1024_i32_107 : BitVec 32 := 1024#32
  let v189 : BitVec 32 := Scalar.muli arg0 c1024_i32_107
  let c0_i32_108 : BitVec 32 := 0#32
  ![v189.toNat, 0]
def k0_off54 (i : grid0.Coords) : Fin 3 → Nat :=
  let arg0 : BitVec 32 := BitVec.ofNat 32 (i 0).val
  let c2_i32 : BitVec 32 := 2#32
  let v0 : BitVec 32 := Scalar.remsi arg0 c2_i32
  let c0_i32_109 : BitVec 32 := 0#32
  let c0_i32_110 : BitVec 32 := 0#32
  ![v0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x2048x20480 : Shape := ⟨3, ![8, 2048, 20480]⟩
abbrev S8x2048x20 : Shape := ⟨3, ![8, 2048, 20]⟩
abbrev S8x2048x4096 : Shape := ⟨3, ![8, 2048, 4096]⟩
abbrev S8x2048 : Shape := ⟨2, ![8, 2048]⟩
abbrev S16384x4096 : Shape := ⟨2, ![16384, 4096]⟩
abbrev S16384 : Shape := ⟨1, ![16384]⟩
abbrev S20480x4096 : Shape := ⟨2, ![20480, 4096]⟩
abbrev S8x2048x20x1024 : Shape := ⟨4, ![8, 2048, 20, 1024]⟩
abbrev S8x2048x20x1 : Shape := ⟨4, ![8, 2048, 20, 1]⟩
abbrev S8x2048x1 : Shape := ⟨3, ![8, 2048, 1]⟩
abbrev S16384x1 : Shape := ⟨2, ![16384, 1]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S8x2048x20480, .fp8e5m2⟩
  | .hbm, ⟨1, _⟩ => ⟨S8x2048x20, .f32⟩
  | .hbm, ⟨2, _⟩ => ⟨S8x2048x4096, .fp8e4m3⟩
  | .hbm, ⟨3, _⟩ => ⟨S8x2048, .f32⟩
  | .hbm, ⟨4, _⟩ => ⟨S16384x4096, .fp8e5m2⟩
  | .hbm, ⟨5, _⟩ => ⟨S16384, .f32⟩
  | .hbm, ⟨6, _⟩ => ⟨S16384, .i32⟩
  | .hbm, ⟨7, _⟩ => ⟨S20480x4096, .f32⟩
  | .hbm, ⟨8, _⟩ => ⟨S8x2048x20480, .bf16⟩
  | .hbm, ⟨9, _⟩ => ⟨S8x2048x4096, .bf16⟩
  | .hbm, ⟨10, _⟩ => ⟨S16384x4096, .f32⟩
  | .hbm, ⟨11, _⟩ => ⟨S20480x4096, .f32⟩
  | .hbm, ⟨12, _⟩ => ⟨S_, .f32⟩
  | .hbm, ⟨13, _⟩ => ⟨S20480x4096, .f32⟩
  | .hbm, ⟨14, _⟩ => ⟨S16384x1, .i32⟩
  | .hbm, ⟨15, _⟩ => ⟨S20480x4096, .f32⟩
  | .hbm, ⟨16, _⟩ => ⟨S20480x4096, .f32⟩
  | .hbm, ⟨17, _⟩ => ⟨S20480x4096, .f32⟩
  | .local _ .vmem, ⟨0, _⟩ => ⟨S8x2048x20480, .fp8e5m2⟩
  | .local _ .vmem, ⟨1, _⟩ => ⟨S8x2048x20, .f32⟩
  | .local _ .vmem, ⟨2, _⟩ => ⟨S8x2048x4096, .fp8e4m3⟩
  | .local _ .vmem, ⟨3, _⟩ => ⟨S8x2048, .f32⟩
  | .local _ .vmem, ⟨4, _⟩ => ⟨S16384x4096, .fp8e5m2⟩
  | .local _ .vmem, ⟨5, _⟩ => ⟨S16384, .f32⟩
  | .local _ .vmem, ⟨6, _⟩ => ⟨S8x2048x20480, .bf16⟩
  | .local _ .vmem, ⟨7, _⟩ => ⟨S8x2048x4096, .bf16⟩
  | .local _ .vmem, ⟨8, _⟩ => ⟨S16384x4096, .f32⟩
  | _, _ => ⟨S8x2048x20480, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x2048x20480 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x20480 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Names.lean ====
/-
  Names of the pieces the kernel moves, and its offsets in closed form.

  The grid point `(c, k)` is output chunk `c` of 20 and row block `k` of 16. The accumulator has two slots; chunk
  `c` works in slot `c % 2`. Block `b` of the incoming gradient, and block `b` of the result, are rows
  `1024 b … 1024 b + 1023`; window `w` of the embedding gradient is rows `256 w … 256 w + 255`. Each slice the
  body computes is one of these, by the closed form of its offset chain.
-/
module

public import proofs.«01_k».proof.Defs
public import proofs.«01_k».proof.Proof.Gen.Kernel.Launch
public import proofs.«01_k».proof.Proof.Gen.Kernel.Skeleton
public import proofs.«01_k».proof.Proof.Gen.Kernel.Loops
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Proof.Run

open Cert.Kernel Cert.Kernel.Gen
open Idealize.ShloMosaic
open Idealize.ShloMosaic.TcCoe Idealize.ShloMosaic.Tactic

variable {F : FTy → Type} [FloatOps F]

/-! ## Blocks, slots, windows -/

abbrev accM : Memref sig .tc .vmem S2x1024x4096 .f32 := Memref.whole cc0_scratch0
abbrev lhsM : Memref sig .tc .vmem S1024x1024 .bf16 := Memref.whole cc0_scratch1
abbrev ebM : Memref sig .tc .vmem S256x4096 .fp8e5m2 := Memref.whole cc0_scratch2
abbrev mgM : Memref sig .tc .hbm S20480x4096 .f32 := Memref.whole main_arg7
abbrev outM : Memref sig .tc .hbm S20480x4096 .f32 := Memref.whole main_v18
abbrev eM : Memref sig .tc .hbm S16384x4096 .fp8e5m2 := Memref.whole main_arg4

abbrev slotOff (s : Fin 2) : Fin 3 → Nat := ![s.val, 0, 0]
theorem slotOff_inb (s : Fin 2) : ∀ a, slotOff s a + S1x1024x4096.size a ≤ S2x1024x4096.size a := by
  have := s.isLt; intro a; fin_cases a
  · show s.val + 1 ≤ 2; omega
  · show 0 + 1024 ≤ 1024; omega
  · show 0 + 4096 ≤ 4096; omega
abbrev blkOff (b : Fin 20) : Fin 2 → Nat := ![1024 * b.val, 0]
theorem blkOff_inb (b : Fin 20) : ∀ a, blkOff b a + S1024x4096.size a ≤ S20480x4096.size a := by
  have := b.isLt; intro a; fin_cases a
  · show 1024 * b.val + 1024 ≤ 20480; omega
  · show 0 + 4096 ≤ 4096; omega
abbrev winOff (w : Fin 64) : Fin 2 → Nat := ![256 * w.val, 0]
theorem winOff_inb (w : Fin 64) : ∀ a, winOff w a + S256x4096.size a ≤ S16384x4096.size a := by
  have := w.isLt; intro a; fin_cases a
  · show 256 * w.val + 256 ≤ 16384; omega
  · show 0 + 4096 ≤ 4096; omega

/-- Slot `s` of the accumulator. -/
def rslot (s : Fin 2) : Memref sig .tc .vmem S1024x4096 .f32 :=
  (accM.slice (Rect.unit (s := S2x1024x4096) (slotOff s) S1x1024x4096.size (slotOff_inb s)) (fun _ => rfl)).squeeze S1024x4096 squeezes_S1x1024x4096_S1024x4096
/-- Block `b` of the incoming gradient. -/
def mgB (b : Fin 20) : Memref sig .tc .hbm S1024x4096 .f32 :=
  mgM.slice (Rect.unit (s := S20480x4096) (blkOff b) S1024x4096.size (blkOff_inb b)) (fun _ => rfl)
/-- Block `b` of the result. -/
def outB (b : Fin 20) : Memref sig .tc .hbm S1024x4096 .f32 :=
  outM.slice (Rect.unit (s := S20480x4096) (blkOff b) S1024x4096.size (blkOff_inb b)) (fun _ => rfl)
/-- Window `w` of the embedding gradient. -/
def eW (w : Fin 64) : Memref sig .tc .hbm S256x4096 .fp8e5m2 :=
  eM.slice (Rect.unit (s := S16384x4096) (winOff w) S256x4096.size (winOff_inb w)) (fun _ => rfl)

instance (s : Fin 2) : ClosedOff (slotOff s) := ⟨slotOff s, rfl⟩
instance (b : Fin 20) : ClosedOff (blkOff b) := ⟨blkOff b, rfl⟩
instance (w : Fin 64) : ClosedOff (winOff w) := ⟨winOff w, rfl⟩

/-! ## The conditions on the grid point -/

section Point
variable (i : grid0.Coords)
open Affine

theorem c_lt : (i 0).val < 20 := (i 0).isLt
theorem k_lt : (i 1).val < 16 := (i 1).isLt

theorem cond1_iff : Scalar.cmpi .ne (Scalar.extui (Scalar.andi (Scalar.cmpi .eq (BitVec.ofNat 32 (i 1).val) 0#32) (Scalar.cmpi .eq (BitVec.ofNat 32 (i 0).val) 0#32)) : BitVec 32) 0#32 = 1#1
    ↔ (i 1).val = 0 ∧ (i 0).val = 0 := by
  have h : ∀ (a : Fin 20) (b : Fin 16), Scalar.cmpi .ne (Scalar.extui (Scalar.andi (Scalar.cmpi .eq (BitVec.ofNat 32 b.val) 0#32) (Scalar.cmpi .eq (BitVec.ofNat 32 a.val) 0#32)) : BitVec 32) 0#32 = 1#1
    ↔ b.val = 0 ∧ a.val = 0 := by decide
  exact h (i 0) (i 1)
theorem cond2_iff : k0_cond2 i = 1#1 ↔ (i 1).val = 0 := by
  have h : ∀ b : Fin 16, Scalar.cmpi .ne (Scalar.extui (Scalar.cmpi .eq (BitVec.ofNat 32 b.val) 0#32) : BitVec 32) 0#32 = 1#1 ↔ b.val = 0 := by decide
  exact h (i 1)
theorem cond3_iff : k0_cond3 i = 1#1 ↔ (i 1).val = 1 ∧ 0 < (i 0).val := by
  have h : ∀ (a : Fin 20) (b : Fin 16), Scalar.cmpi .ne (Scalar.extui (Scalar.andi (Scalar.cmpi .eq (BitVec.ofNat 32 b.val) 1#32) (Scalar.cmpi .sgt (BitVec.ofNat 32 a.val) 0#32)) : BitVec 32) 0#32 = 1#1
    ↔ b.val = 1 ∧ 0 < a.val := by decide
  exact h (i 0) (i 1)
theorem cond4_iff : k0_cond4 i = 1#1 ↔ (i 1).val = 1 ∧ (i 0).val + 1 < 20 := by
  have h : ∀ (a : Fin 20) (b : Fin 16), Scalar.cmpi .ne (Scalar.extui (Scalar.andi (Scalar.cmpi .eq (BitVec.ofNat 32 b.val) 1#32) (Scalar.cmpi .slt (Scalar.addi (BitVec.ofNat 32 a.val) 1#32) 20#32)) : BitVec 32) 0#32 = 1#1
    ↔ b.val = 1 ∧ a.val + 1 < 20 := by decide
  exact h (i 0) (i 1)
theorem cond5_iff : k0_cond5 i = 1#1 ↔ (i 1).val = 15 := by
  have h : ∀ b : Fin 16, Scalar.cmpi .ne (Scalar.extui (Scalar.cmpi .eq (BitVec.ofNat 32 b.val) 15#32) : BitVec 32) 0#32 = 1#1 ↔ b.val = 15 := by decide
  exact h (i 1)
theorem cond14_iff : k0_cond14 i = 1#1 ↔ (i 0).val = 19 := by
  have h : ∀ a : Fin 20, Scalar.cmpi .ne (Scalar.extui (Scalar.cmpi .eq (BitVec.ofNat 32 a.val) 19#32) : BitVec 32) 0#32 = 1#1 ↔ a.val = 19 := by decide
  exact h (i 0)

/-! ## The offsets in closed form -/

theorem isInt_c : IsInt (BitVec.ofNat 32 (i 0).val) (i 0).val :=
  ofNat (e := ((i 0).val : Int)) _ ⟨rfl, by have := c_lt i; omega⟩
theorem isInt_slot : IsInt (Scalar.remsi (BitVec.ofNat 32 (i 0).val) 2#32) ((i 0).val % 2 : Nat) :=
  remsi (e := ((i 0).val % 2 : Nat)) (isInt_c i) (ofNat (e := 2) 2 ⟨rfl, by decide⟩) ⟨by omega, by omega, by omega⟩
theorem isInt_other : IsInt (Scalar.subi 1#32 (Scalar.remsi (BitVec.ofNat 32 (i 0).val) 2#32)) (1 - (i 0).val % 2 : Nat) :=
  subi (e := (1 - (i 0).val % 2 : Nat)) (ofNat (e := 1) 1 ⟨rfl, by decide⟩) (isInt_slot i) ⟨by omega, by omega, by omega⟩
theorem isInt_row : IsInt (Scalar.muli (BitVec.ofNat 32 (i 0).val) 1024#32) (1024 * (i 0).val : Nat) :=
  muli (e := (1024 * (i 0).val : Nat)) (isInt_c i) (ofNat (e := 1024) 1024 ⟨rfl, by decide⟩) (by have := c_lt i; exact ⟨by push_cast; omega, by omega, by push_cast; omega⟩)

theorem slot_val : (Ring.sl 2 (i 0).val).val = (i 0).val % 2 := by simp [Ring.sl, Fin.ofNat]
theorem other_val : (Ring.sl 2 ((i 0).val + 1)).val = 1 - (i 0).val % 2 := by simp [Ring.sl, Fin.ofNat]; omega

theorem off1_eq : k0_off1 i = slotOff (Ring.sl 2 (i 0).val) := vec_cons (isInt_slot i) (by rw [slot_val]) rfl
theorem off2_eq : k0_off2 i = blkOff (Ring.bk 20 (i 0).val) := vec_cons (isInt_row i) (by rw [Ring.bk_val (c_lt i)]) rfl
theorem off3_eq (h : 0 < (i 0).val) : k0_off3 i = blkOff (Ring.bk 20 ((i 0).val - 1)) := by
  have := c_lt i
  refine vec_cons (e := (1024 * ((i 0).val - 1) : Nat)) (muli (e := (1024 * ((i 0).val - 1) : Nat)) (subi (e := ((i 0).val - 1 : Nat)) (isInt_c i) (ofNat (e := 1) 1 ⟨rfl, by decide⟩) ⟨by omega, by omega, by omega⟩)
    (ofNat (e := 1024) 1024 ⟨rfl, by decide⟩) ⟨by push_cast; omega, by omega, by push_cast; omega⟩) (by rw [Ring.bk_val (by omega)]) rfl
theorem off4_eq : k0_off4 i = slotOff (Ring.sl 2 ((i 0).val + 1)) := vec_cons (isInt_other i) (by rw [other_val]) rfl
theorem off5_eq : k0_off5 i = slotOff (Ring.sl 2 ((i 0).val + 1)) := vec_cons (isInt_other i) (by rw [other_val]) rfl
theorem off6_eq (h : (i 0).val + 1 < 20) : k0_off6 i = blkOff (Ring.bk 20 ((i 0).val + 1)) := by
  refine vec_cons (e := (1024 * ((i 0).val + 1) : Nat)) (muli (e := (1024 * ((i 0).val + 1) : Nat)) (addi (e := ((i 0).val + 1 : Nat)) (isInt_c i) (ofNat (e := 1) 1 ⟨rfl, by decide⟩) ⟨by omega, by omega, by omega⟩)
    (ofNat (e := 1024) 1024 ⟨rfl, by decide⟩) ⟨by push_cast; omega, by omega, by push_cast; omega⟩) (by rw [Ring.bk_val h]) rfl
theorem off51_eq : k0_off51 i = blkOff (Ring.bk 20 (i 0).val) := vec_cons (isInt_row i) (by rw [Ring.bk_val (c_lt i)]) rfl
theorem off52_eq : k0_off52 i = slotOff (Ring.sl 2 (i 0).val) := vec_cons (isInt_slot i) (by rw [slot_val]) rfl
theorem off53_eq : k0_off53 i = blkOff (Ring.bk 20 (i 0).val) := vec_cons (isInt_row i) (by rw [Ring.bk_val (c_lt i)]) rfl
theorem off54_eq : k0_off54 i = slotOff (Ring.sl 2 (i 0).val) := vec_cons (isInt_slot i) (by rw [slot_val]) rfl

/-- Column block `n` (of 8) of slot `s`: columns `512 n … 512 n + 511`. -/
abbrev colOff (s : Fin 2) (n : Fin 8) : Fin 3 → Nat := ![s.val, 0, 512 * n.val]
/-- Row block `m` (of 4) of slot `s`: rows `256 m … 256 m + 255`. -/
abbrev rowOff (s : Fin 2) (m : Fin 4) : Fin 3 → Nat := ![s.val, 256 * m.val, 0]
theorem colOff_inb (s : Fin 2) (n : Fin 8) : ∀ a, colOff s n a + S1x1024x512.size a ≤ S2x1024x4096.size a := by
  have := s.isLt; have := n.isLt; intro a; fin_cases a
  · show s.val + 1 ≤ 2; omega
  · show 0 + 1024 ≤ 1024; omega
  · show 512 * n.val + 512 ≤ 4096; omega
theorem rowOff_inb (s : Fin 2) (m : Fin 4) : ∀ a, rowOff s m a + S1x256x4096.size a ≤ S2x1024x4096.size a := by
  have := s.isLt; have := m.isLt; intro a; fin_cases a
  · show s.val + 1 ≤ 2; omega
  · show 256 * m.val + 256 ≤ 1024; omega
  · show 0 + 4096 ≤ 4096; omega
theorem off7_eq : k0_off7 i = colOff (Ring.sl 2 (i 0).val) 0 := vec_cons (indexCast (isInt_slot i)) (by rw [slot_val]) rfl
theorem off8_eq : k0_off8 i = colOff (Ring.sl 2 (i 0).val) 1 := vec_cons (indexCast (isInt_slot i)) (by rw [slot_val]) rfl
theorem off9_eq : k0_off9 i = colOff (Ring.sl 2 (i 0).val) 2 := vec_cons (indexCast (isInt_slot i)) (by rw [slot_val]) rfl
theorem off10_eq : k0_off10 i = colOff (Ring.sl 2 (i 0).val) 3 := vec_cons (indexCast (isInt_slot i)) (by rw [slot_val]) rfl
theorem off11_eq : k0_off11 i = colOff (Ring.sl 2 (i 0).val) 4 := vec_cons (indexCast (isInt_slot i)) (by rw [slot_val]) rfl
theorem off12_eq : k0_off12 i = colOff (Ring.sl 2 (i 0).val) 5 := vec_cons (indexCast (isInt_slot i)) (by rw [slot_val]) rfl
theorem off13_eq : k0_off13 i = colOff (Ring.sl 2 (i 0).val) 6 := vec_cons (indexCast (isInt_slot i)) (by rw [slot_val]) rfl
theorem off14_eq : k0_off14 i = colOff (Ring.sl 2 (i 0).val) 7 := vec_cons (indexCast (isInt_slot i)) (by rw [slot_val]) rfl
instance : ClosedOff (k0_off7 i) := ⟨colOff (Ring.sl 2 (i 0).val) 0, off7_eq i⟩
instance : ClosedOff (k0_off8 i) := ⟨colOff (Ring.sl 2 (i 0).val) 1, off8_eq i⟩
instance : ClosedOff (k0_off9 i) := ⟨colOff (Ring.sl 2 (i 0).val) 2, off9_eq i⟩
instance : ClosedOff (k0_off10 i) := ⟨colOff (Ring.sl 2 (i 0).val) 3, off10_eq i⟩
instance : ClosedOff (k0_off11 i) := ⟨colOff (Ring.sl 2 (i 0).val) 4, off11_eq i⟩
instance : ClosedOff (k0_off12 i) := ⟨colOff (Ring.sl 2 (i 0).val) 5, off12_eq i⟩
instance : ClosedOff (k0_off13 i) := ⟨colOff (Ring.sl 2 (i 0).val) 6, off13_eq i⟩
instance : ClosedOff (k0_off14 i) := ⟨colOff (Ring.sl 2 (i 0).val) 7, off14_eq i⟩
theorem off21_eq : k0_off21 i = rowOff (Ring.sl 2 (i 0).val) 0 := vec_cons (indexCast (isInt_slot i)) (by rw [slot_val]) rfl
instance : ClosedOff (k0_off21 i) := ⟨rowOff (Ring.sl 2 (i 0).val) 0, off21_eq i⟩
theorem off25_eq : k0_off25 i = rowOff (Ring.sl 2 (i 0).val) 1 := vec_cons (indexCast (isInt_slot i)) (by rw [slot_val]) rfl
instance : ClosedOff (k0_off25 i) := ⟨rowOff (Ring.sl 2 (i 0).val) 1, off25_eq i⟩
theorem off29_eq : k0_off29 i = rowOff (Ring.sl 2 (i 0).val) 2 := vec_cons (indexCast (isInt_slot i)) (by rw [slot_val]) rfl
instance : ClosedOff (k0_off29 i) := ⟨rowOff (Ring.sl 2 (i 0).val) 2, off29_eq i⟩
theorem off33_eq : k0_off33 i = rowOff (Ring.sl 2 (i 0).val) 3 := vec_cons (indexCast (isInt_slot i)) (by rw [slot_val]) rfl
instance : ClosedOff (k0_off33 i) := ⟨rowOff (Ring.sl 2 (i 0).val) 3, off33_eq i⟩

/-! ## The body's slices are the named pieces -/

private theorem rslot_congr {off : Fin 3 → Nat} {s : Fin 2} (e : off = slotOff s) (hh hs) :
    (accM.slice (Rect.unit (s := S2x1024x4096) off S1x1024x4096.size hh) hs).squeeze S1024x4096 squeezes_S1x1024x4096_S1024x4096 = rslot s :=
  congrArg (fun M : Memref sig .tc .vmem S1x1024x4096 .f32 => M.squeeze S1024x4096 squeezes_S1x1024x4096_S1024x4096) (Memref.slice_unit_congr _ e _ _ _ _)
private theorem mgB_congr {off : Fin 2 → Nat} {b : Fin 20} (e : off = blkOff b) (hh hs) :
    mgM.slice (Rect.unit (s := S20480x4096) off S1024x4096.size hh) hs = mgB b := Memref.slice_unit_congr _ e _ _ _ (fun _ => rfl)
private theorem outB_congr {off : Fin 2 → Nat} {b : Fin 20} (e : off = blkOff b) (hh hs) :
    outM.slice (Rect.unit (s := S20480x4096) off S1024x4096.size hh) hs = outB b := Memref.slice_unit_congr _ e _ _ _ (fun _ => rfl)
theorem eW_congr {off : Fin 2 → Nat} {w : Fin 64} (e : off = winOff w) (hh hs) :
    eM.slice (Rect.unit (s := S16384x4096) off S256x4096.size hh) hs = eW w := Memref.slice_unit_congr _ e _ _ _ (fun _ => rfl)

@[sl_canon] theorem slot_first (hh hs) : (accM.slice (Rect.unit (s := S2x1024x4096) (![0, 0, 0]) S1x1024x4096.size hh) hs).squeeze S1024x4096 squeezes_S1x1024x4096_S1024x4096 = rslot (0) := rslot_congr (s := 0) (by decide) _ _
@[sl_canon] theorem mg_first (hh hs) : mgM.slice (Rect.unit (s := S20480x4096) ![0, 0] S1024x4096.size hh) hs = mgB 0 := mgB_congr (b := 0) (by decide) _ _
@[sl_canon] theorem slot1 (hh hs) : (accM.slice (Rect.unit (s := S2x1024x4096) (k0_off1 i) S1x1024x4096.size hh) hs).squeeze S1024x4096 squeezes_S1x1024x4096_S1024x4096 = rslot (Ring.sl 2 (i 0).val) := rslot_congr (off1_eq i) _ _
@[sl_canon] theorem slot4 (hh hs) : (accM.slice (Rect.unit (s := S2x1024x4096) (k0_off4 i) S1x1024x4096.size hh) hs).squeeze S1024x4096 squeezes_S1x1024x4096_S1024x4096 = rslot (Ring.sl 2 ((i 0).val + 1)) := rslot_congr (off4_eq i) _ _
@[sl_canon] theorem slot5 (hh hs) : (accM.slice (Rect.unit (s := S2x1024x4096) (k0_off5 i) S1x1024x4096.size hh) hs).squeeze S1024x4096 squeezes_S1x1024x4096_S1024x4096 = rslot (Ring.sl 2 ((i 0).val + 1)) := rslot_congr (off5_eq i) _ _
@[sl_canon] theorem slot52 (hh hs) : (accM.slice (Rect.unit (s := S2x1024x4096) (k0_off52 i) S1x1024x4096.size hh) hs).squeeze S1024x4096 squeezes_S1x1024x4096_S1024x4096 = rslot (Ring.sl 2 (i 0).val) := rslot_congr (off52_eq i) _ _
@[sl_canon] theorem slot54 (hh hs) : (accM.slice (Rect.unit (s := S2x1024x4096) (k0_off54 i) S1x1024x4096.size hh) hs).squeeze S1024x4096 squeezes_S1x1024x4096_S1024x4096 = rslot (Ring.sl 2 (i 0).val) := rslot_congr (off54_eq i) _ _
/-- At the first point, chunk `0` and its slot. -/
@[sl_canon] theorem sl_zero (h : (i 1).val = 0 ∧ (i 0).val = 0) : Ring.sl 2 (i 0).val = 0 := by rw [h.2]; rfl
@[sl_canon] theorem bk_zero (h : (i 1).val = 0 ∧ (i 0).val = 0) : Ring.bk 20 (i 0).val = 0 := by rw [h.2]; rfl
@[sl_canon] theorem mg2 (hh hs) : mgM.slice (Rect.unit (s := S20480x4096) (k0_off2 i) S1024x4096.size hh) hs = mgB (Ring.bk 20 (i 0).val) := mgB_congr (off2_eq i) _ _
@[sl_canon] theorem mg6 (h : (i 0).val + 1 < 20) (hh hs) : mgM.slice (Rect.unit (s := S20480x4096) (k0_off6 i) S1024x4096.size hh) hs = mgB (Ring.bk 20 ((i 0).val + 1)) := mgB_congr (off6_eq i h) _ _
@[sl_canon] theorem out3 (h : 0 < (i 0).val) (hh hs) : outM.slice (Rect.unit (s := S20480x4096) (k0_off3 i) S1024x4096.size hh) hs = outB (Ring.bk 20 ((i 0).val - 1)) := outB_congr (off3_eq i h) _ _
@[sl_canon] theorem out51 (hh hs) : outM.slice (Rect.unit (s := S20480x4096) (k0_off51 i) S1024x4096.size hh) hs = outB (Ring.bk 20 (i 0).val) := outB_congr (off51_eq i) _ _
@[sl_canon] theorem out53 (hh hs) : outM.slice (Rect.unit (s := S20480x4096) (k0_off53 i) S1024x4096.size hh) hs = outB (Ring.bk 20 (i 0).val) := outB_congr (off53_eq i) _ _

end Point

end Cert.Proof.Run

end
-- ==== Proof.Words.lean ====
/-
  The window loop's words in closed form.

  The table of bounds holds counts between 0 and 16384. Between two such words `lo` and `hi` the loop runs over the
  windows `lo / 256 ≤ w < (hi + 255) / 256`; the division is the signed floor division, whose correction never
  applies to a count. The loop that follows it in the printed program has no trips.
-/
module

public import proofs.«01_k».proof.Proof.Names

@[expose] public section

noncomputable section

namespace Cert.Proof.Run

open Cert.Kernel Cert.Kernel.Gen
open Idealize.ShloMosaic
open Idealize.ShloMosaic.TcCoe Idealize.ShloMosaic.Tactic
open Affine

/-- A word of the table: a count between 0 and 16384. -/
def Small (v : BitVec 32) : Prop := 0 ≤ v.toInt ∧ v.toInt ≤ 16384

/-- The floor division by 256, as the body spells it. -/
def floorDiv (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 256#32 0#32)) (Scalar.extui (Scalar.cmpi .slt 256#32 0#32))))
      (Scalar.cmpi .ne (Scalar.remsi x 256#32) 0#32))
    (Scalar.subi (Scalar.divsi x 256#32) 1#32) (Scalar.divsi x 256#32)

theorem toInt_of_isInt {x : BitVec 32} {e : Int} (h : IsInt x e) : x.toInt = e := by
  delta Affine.IsInt at h; exact h

theorem isInt_0 : IsInt 0#32 0 := ofNat (e := 0) 0 ⟨rfl, by decide⟩
theorem isInt_1 : IsInt 1#32 1 := ofNat (e := 1) 1 ⟨rfl, by decide⟩
theorem isInt_256 : IsInt 256#32 256 := ofNat (e := 256) 256 ⟨rfl, by decide⟩

theorem isInt_floorDiv {x : BitVec 32} {e : Int} (hx : IsInt x e) (h0 : 0 ≤ e) (h1 : e < 2 ^ 31) : IsInt (floorDiv x) (e / 256) := by
  have hd : IsInt (Scalar.divsi x 256#32) (e / 256) := divsi hx isInt_256 ⟨rfl, h0, by omega⟩
  have hs : IsInt (Scalar.subi (Scalar.divsi x 256#32) 1#32) (e / 256 - 1) := subi hd isInt_1 ⟨rfl, by omega, by omega⟩
  have hr : IsInt (Scalar.remsi x 256#32) (e % 256) := remsi hx isInt_256 ⟨rfl, h0, by omega⟩
  refine select_fails ?_ hs hd rfl
  rcases lt_or_eq_of_le h0 with hp | hz
  · refine andi_fails_left (ne_fails (subi (e := 1) (extui_holds (sgt_holds hx isInt_0 hp) rfl) (extui_fails (slt_fails hx isInt_0 (by omega)) rfl) ⟨rfl, by omega, by omega⟩)
      (subi (e := 1) (extui_holds (sgt_holds isInt_256 isInt_0 (by omega)) rfl) (extui_fails (slt_fails isInt_256 isInt_0 (by omega)) rfl) ⟨rfl, by omega, by omega⟩) rfl) trivial
  · exact andi_fails_right trivial (ne_fails hr isInt_0 (by omega))

section Loop
variable (lo hi : BitVec 32)

/-- The loop's trips: from window `lo / 256` up to the window past `hi`. -/
def wLo (lo : BitVec 32) : ℕ := (lo.toInt / 256).toNat
def wCount (lo hi : BitVec 32) : ℕ := ((hi.toInt + 255) / 256 - lo.toInt / 256).toNat

theorem lb_eq : (k0_t1_loop lo hi).lb = floorDiv lo := rfl
theorem ub_eq : (k0_t1_loop lo hi).ub = Scalar.addi (floorDiv lo) (Scalar.muli (Scalar.divsi (Scalar.subi (floorDiv (Scalar.subi (Scalar.addi hi 256#32) 1#32)) (floorDiv lo)) 1#32) 1#32) := rfl
theorem lb2_eq : (k0_t2_loop lo hi).lb = (k0_t1_loop lo hi).ub := rfl
theorem ub2_eq : (k0_t2_loop lo hi).ub = Scalar.addi (floorDiv lo) (Scalar.subi (floorDiv (Scalar.subi (Scalar.addi hi 256#32) 1#32)) (floorDiv lo)) := rfl

variable {lo hi} (hlo : Small lo) (hhi : Small hi)
include hlo hhi

theorem isInt_lb : IsInt (floorDiv lo) (lo.toInt / 256) := isInt_floorDiv (word lo) hlo.1 (word_range lo).2
omit hlo in
theorem isInt_top : IsInt (floorDiv (Scalar.subi (Scalar.addi hi 256#32) 1#32)) ((hi.toInt + 255) / 256) := by
  obtain ⟨h0, h1⟩ := hhi
  exact isInt_floorDiv (subi (e := hi.toInt + 255) (addi (e := hi.toInt + 256) (word hi) isInt_256 ⟨rfl, by omega, by omega⟩) isInt_1 ⟨by omega, by omega, by omega⟩) (by omega) (by omega)
theorem isInt_diff : IsInt (Scalar.subi (floorDiv (Scalar.subi (Scalar.addi hi 256#32) 1#32)) (floorDiv lo)) ((hi.toInt + 255) / 256 - lo.toInt / 256) := by
  have := hlo.1; have := hlo.2; have := hhi.1; have := hhi.2
  exact subi (isInt_top hhi) (isInt_lb hlo hhi) ⟨rfl, by omega, by omega⟩
theorem isInt_ub : IsInt (k0_t1_loop lo hi).ub ((hi.toInt + 255) / 256) := by
  have := hlo.1; have := hlo.2; have := hhi.1; have := hhi.2
  rw [ub_eq]
  exact addi (isInt_lb hlo hhi) (muli (e := (hi.toInt + 255) / 256 - lo.toInt / 256) (divsi_one (isInt_diff hlo hhi) isInt_1 ⟨rfl, rfl⟩) isInt_1 ⟨by omega, by omega, by omega⟩) ⟨by omega, by omega, by omega⟩
theorem isInt_ub2 : IsInt (k0_t2_loop lo hi).ub ((hi.toInt + 255) / 256) := by
  have := hlo.1; have := hlo.2; have := hhi.1; have := hhi.2
  rw [ub2_eq]
  exact addi (isInt_lb hlo hhi) (isInt_diff hlo hhi) ⟨by omega, by omega, by omega⟩

theorem trips1_eq : (k0_t1_loop lo hi).trips = wCount lo hi := by
  have h : (k0_t1_loop lo hi).trips ≤ wCount lo hi ∧ wCount lo hi ≤ (k0_t1_loop lo hi).trips := by
    unfold wCount
    show Scf.trips (k0_t1_loop lo hi).lb (k0_t1_loop lo hi).ub 1#32 ≤ _ ∧ _ ≤ Scf.trips (k0_t1_loop lo hi).lb (k0_t1_loop lo hi).ub 1#32
    have hl : (k0_t1_loop lo hi).lb.toInt = lo.toInt / 256 := toInt_of_isInt (isInt_lb hlo hhi)
    have hu : (k0_t1_loop lo hi).ub.toInt = (hi.toInt + 255) / 256 := toInt_of_isInt (isInt_ub hlo hhi)
    have h1 : (1#32 : BitVec 32).toInt = 1 := by decide
    unfold Scf.trips
    rw [hl, hu, h1]; omega
  omega
theorem trips2_eq : (k0_t2_loop lo hi).trips = 0 := by
  have hl : (k0_t2_loop lo hi).lb.toInt = (hi.toInt + 255) / 256 := toInt_of_isInt (isInt_ub hlo hhi)
  have hu : (k0_t2_loop lo hi).ub.toInt = (hi.toInt + 255) / 256 := toInt_of_isInt (isInt_ub2 hlo hhi)
  have h1 : (1#32 : BitVec 32).toInt = 1 := by decide
  show Scf.trips (k0_t2_loop lo hi).lb (k0_t2_loop lo hi).ub 1#32 = 0
  unfold Scf.trips
  rw [hl, hu, h1]; omega

/-- Trip `k`'s window is one of the 64. -/
theorem win_lt (k : Fin (k0_t1_loop lo hi).trips) : wLo lo + k.val < 64 := by
  have := Nat.lt_of_lt_of_eq k.isLt (trips1_eq hlo hhi)
  have := hlo.1; have := hlo.2; have := hhi.1; have := hhi.2
  unfold wLo; unfold wCount at *; omega

theorem isInt_iv (k : Fin (k0_t1_loop lo hi).trips) : IsInt (Scf.iv (floorDiv lo) 1#32 k.val) (wLo lo + k.val : Nat) := by
  have hw := win_lt hlo hhi k
  have := hlo.1
  refine iv (e := (wLo lo + k.val : Nat)) (isInt_lb hlo hhi) isInt_1 k.val ⟨?_, by omega, by omega⟩
  unfold wLo at *; omega

theorem off17_eq (k : Fin (k0_t1_loop lo hi).trips) : k0_off17 lo hi k = winOff (Ring.bk 64 (wLo lo + k.val)) := by
  have hw := win_lt hlo hhi k
  exact vec_cons (muli (e := (256 * (wLo lo + k.val) : Nat)) (isInt_iv hlo hhi k) isInt_256 ⟨by push_cast; omega, by omega, by omega⟩) (by rw [Ring.bk_val hw]) rfl

/-- Row `w` of the two window tables. -/
abbrev rowAt (w : Fin 64) : Fin 3 → Nat := ![w.val, 0, 0]
omit hlo hhi in
theorem rowAt_inb (w : Fin 64) : ∀ a, rowAt w a + S1x1x256.size a ≤ S64x1x256.size a := by
  have := w.isLt; intro a; fin_cases a
  · show w.val + 1 ≤ 64; omega
  · show 0 + 1 ≤ 1; omega
  · show 0 + 256 ≤ 256; omega

theorem off20_eq (k : Fin (k0_t1_loop lo hi).trips) : k0_off20 lo hi k = rowAt (Ring.bk 64 (wLo lo + k.val)) :=
  vec_cons (indexCast (isInt_iv hlo hhi k)) (by rw [Ring.bk_val (win_lt hlo hhi k)]) rfl
theorem off24_eq (k : Fin (k0_t1_loop lo hi).trips) : k0_off24 lo hi k = rowAt (Ring.bk 64 (wLo lo + k.val)) :=
  vec_cons (indexCast (isInt_iv hlo hhi k)) (by rw [Ring.bk_val (win_lt hlo hhi k)]) rfl
theorem off28_eq (k : Fin (k0_t1_loop lo hi).trips) : k0_off28 lo hi k = rowAt (Ring.bk 64 (wLo lo + k.val)) :=
  vec_cons (indexCast (isInt_iv hlo hhi k)) (by rw [Ring.bk_val (win_lt hlo hhi k)]) rfl
theorem off32_eq (k : Fin (k0_t1_loop lo hi).trips) : k0_off32 lo hi k = rowAt (Ring.bk 64 (wLo lo + k.val)) :=
  vec_cons (indexCast (isInt_iv hlo hhi k)) (by rw [Ring.bk_val (win_lt hlo hhi k)]) rfl

/-! ## The run-time checks hold -/

variable (i : grid0.Coords)

theorem chk1 : k0_chk1 i lo hi := by
  have hloop : (k0_t1_loop lo hi).OK := by
    have := hlo.1; have := hlo.2; have := hhi.1; have := hhi.2
    exact ok (isInt_lb hlo hhi) (isInt_ub hlo hhi) isInt_1 ⟨by omega, by omega⟩
  have hloop2 : (k0_t2_loop lo hi).OK := by
    have := hlo.1; have := hlo.2; have := hhi.1; have := hhi.2
    exact ok (isInt_ub hlo hhi) (isInt_ub2 hlo hhi) isInt_1 ⟨by omega, by omega⟩
  have hno : ∀ k : Fin (k0_t2_loop lo hi).trips, False := fun k => Nat.not_lt_zero _ (Nat.lt_of_lt_of_eq k.isLt (trips2_eq hlo hhi))
  refine ⟨fun _ => hloop, fun k _ => ?_, fun k _ hinb => ?_, fun _ => hloop2, fun k => (hno k).elim, fun k => (hno k).elim⟩
  · rw [off17_eq hlo hhi k]; exact winOff_inb _
  · refine words_of_packed (packed_dvd (by decide) ?_ (by decide))
    rw [off17_eq hlo hhi k]
    show 4 ∣ 256 * _
    exact ⟨64 * (Ring.bk 64 (wLo lo + k.val)).val, by ring⟩

variable (k : Fin (k0_t1_loop lo hi).trips) (a b : BitVec 32)
theorem chk2 : k0_chk2 i lo hi k a b := fun _ _ => by rw [off20_eq hlo hhi k]; exact rowAt_inb _
theorem chk3 : k0_chk3 i lo hi k a b := fun _ _ => by rw [off24_eq hlo hhi k]; exact rowAt_inb _
theorem chk4 : k0_chk4 i lo hi k a b := fun _ _ => by rw [off28_eq hlo hhi k]; exact rowAt_inb _
theorem chk5 : k0_chk5 i lo hi k a b := fun _ _ => by rw [off32_eq hlo hhi k]; exact rowAt_inb _

/-! ## When a row block takes part in a window -/

/-- The rows of a block, entries `a ≤ p < b` of the list, meet window `w`. -/
def Meets (w : ℕ) (a b : BitVec 32) : Prop := a.toInt < 256 * (w + 1 : ℕ) ∧ 256 * (w : ℤ) < b.toInt ∧ a.toInt < b.toInt
instance (w : ℕ) (a b : BitVec 32) : Decidable (Meets w a b) := by unfold Meets; infer_instance

omit hlo hhi in
theorem meets_iff {x : BitVec 32} {w : ℕ} (hx : IsInt x w) (hw : w < 64) :
    Scalar.cmpi .ne (Scalar.extui (Scalar.andi (Scalar.andi (Scalar.cmpi .slt a (Scalar.muli (Scalar.addi x 1#32) 256#32)) (Scalar.cmpi .sgt b (Scalar.muli x 256#32))) (Scalar.cmpi .sgt b a)) : BitVec 32) 0#32 = 1#1
      ↔ Meets w a b := by
  have h1 : IsInt (Scalar.muli (Scalar.addi x 1#32) 256#32) (256 * (w + 1 : ℕ)) :=
    muli (addi (e := (w + 1 : ℕ)) hx isInt_1 ⟨by push_cast; rfl, by omega, by omega⟩) isInt_256 ⟨by ring, by omega, by omega⟩
  have h2 : IsInt (Scalar.muli x 256#32) (256 * (w : ℤ)) := muli hx isInt_256 ⟨by ring, by omega, by omega⟩
  unfold Meets
  by_cases ha : a.toInt < 256 * (w + 1 : ℕ)
  · by_cases hb : 256 * (w : ℤ) < b.toInt
    · by_cases hc : a.toInt < b.toInt
      · simp only [ha, hb, hc, and_self, iff_true]
        exact ne_holds (extui_holds (andi_holds (andi_holds (slt_holds (word a) h1 ha) (sgt_holds (word b) h2 hb)) (sgt_holds (word b) (word a) hc)) rfl) isInt_0 (by omega)
      · simp only [hc, and_false, iff_false]
        exact ne_fails (extui_fails (andi_fails_right trivial (sgt_fails (word b) (word a) hc)) rfl) isInt_0 rfl
    · simp only [hb, false_and, and_false, iff_false]
      exact ne_fails (extui_fails (andi_fails_left (andi_fails_right trivial (sgt_fails (word b) h2 hb)) trivial) rfl) isInt_0 rfl
  · simp only [ha, false_and, iff_false]
    exact ne_fails (extui_fails (andi_fails_left (andi_fails_left (slt_fails (word a) h1 ha) trivial) trivial) rfl) isInt_0 rfl

theorem cond6_iff : k0_cond6 lo hi k a b = 1#1 ↔ Meets (wLo lo + k.val) a b := meets_iff a b (isInt_iv hlo hhi k) (win_lt hlo hhi k)
theorem cond7_iff : k0_cond7 lo hi k a b = 1#1 ↔ Meets (wLo lo + k.val) a b := meets_iff a b (isInt_iv hlo hhi k) (win_lt hlo hhi k)
theorem cond8_iff : k0_cond8 lo hi k a b = 1#1 ↔ Meets (wLo lo + k.val) a b := meets_iff a b (isInt_iv hlo hhi k) (win_lt hlo hhi k)
theorem cond9_iff : k0_cond9 lo hi k a b = 1#1 ↔ Meets (wLo lo + k.val) a b := meets_iff a b (isInt_iv hlo hhi k) (win_lt hlo hhi k)

end Loop

end Cert.Proof.Run

end
-- ==== Proof.Steps.lean ====
/-
  What a grid point does to the accumulator slot, as functions of the slot's contents.

  A slot holds 1024 × 4096 numbers. The body adds `lhs · x` to it in eight blocks of 512 columns, and the
  embedding rows in four blocks of 256 rows. Each block is read, a payload computed from it, and the payload put
  back in its place.
-/
module

public import proofs.«01_k».proof.Proof.Words
public import Idealize.ShloMosaic.Lib.Pointwise.Index
public import Idealize.ShloMosaic.Lib.VecWindow
public import Idealize.ShloMosaic.Lib.Pipeline.Value

@[expose] public section

noncomputable section

namespace Cert.Proof.Run

open Cert.Kernel Cert.Kernel.Gen
open Idealize.ShloMosaic
open Idealize.ShloMosaic.TcCoe Idealize.ShloMosaic.Tactic

variable {F : FTy → Type} [FloatOps F]

/-! ## Blocks of columns and of rows -/

section Blocks
variable {α : Type}

/-- Column block `n`: columns `512 n … 512 n + 511`. -/
def cols (n : Fin 8) (a : S1024x4096.Idx → α) : S1x1024x512.Idx → α :=
  fun y => a (ix2 (y 1) ⟨512 * n.val + (y 2).val, by have h : (y 2).val < 512 := (y 2).isLt; have := n.isLt; omega⟩)
/-- `a` with `w` in column block `n`. -/
def putCols (n : Fin 8) (a : S1024x4096.Idx → α) (w : S1x1024x512.Idx → α) : S1024x4096.Idx → α :=
  fun y => if h : 512 * n.val ≤ (y 1).val ∧ (y 1).val < 512 * n.val + 512 then w (ix3 0 (y 0) ⟨(y 1).val - 512 * n.val, by omega⟩) else a y
/-- Column block `n` of the other factor, without the leading axis. -/
def xcols (n : Fin 8) (a : S1024x4096.Idx → α) : S1024x512.Idx → α :=
  fun y => a (ix2 (y 0) ⟨512 * n.val + (y 1).val, by have h : (y 1).val < 512 := (y 1).isLt; have := n.isLt; omega⟩)
/-- Row block `m`: rows `256 m … 256 m + 255`. -/
def rows (m : Fin 4) (a : S1024x4096.Idx → α) : S1x256x4096.Idx → α :=
  fun y => a (ix2 ⟨256 * m.val + (y 1).val, by have h : (y 1).val < 256 := (y 1).isLt; have := m.isLt; omega⟩ (y 2))
/-- `a` with `w` in row block `m`. -/
def putRows (m : Fin 4) (a : S1024x4096.Idx → α) (w : S1x256x4096.Idx → α) : S1024x4096.Idx → α :=
  fun y => if h : 256 * m.val ≤ (y 0).val ∧ (y 0).val < 256 * m.val + 256 then w (ix3 0 ⟨(y 0).val - 256 * m.val, by omega⟩ (y 1)) else a y
/-- Window `w` of a table of 64 rows. -/
def tabRow (w : Fin 64) (a : S64x1x256.Idx → α) : S1x1x256.Idx → α := fun y => a (ix3 w 0 (y 2))

end Blocks

/-! ## The slot's contents, and the body's accesses to it -/

section Access
variable (s : Fin 2)

/-- A slot reads the accumulator at its own first coordinate. -/
theorem rslot_read (f : S2x1024x4096.Idx → Elt F .f32) (y : S1024x4096.Idx) :
    (rslot s).view.read (Elt F) f y = f (ix3 s (y 0) (y 1)) := by
  have e : (Rect.unit (s := S2x1024x4096) (slotOff s) S1x1024x4096.size (slotOff_inb s)).emb
      (Shape.reshapeEquiv squeezes_S1x1024x4096_S1024x4096.numel_eq y) = ix3 s (y 0) (y 1) := by
    rw [show Shape.reshapeEquiv squeezes_S1x1024x4096_S1024x4096.numel_eq y = Fin.cons ⟨0, Nat.one_pos⟩ y from Shape.reshapeEquiv_cons_one _ y]
    funext a; refine Fin.ext ?_
    match a with
    | 0 => show s.val + 1 * 0 = s.val; omega
    | 1 => show 0 + 1 * (y 0).val = (y 0).val; omega
    | 2 => show 0 + 1 * (y 1).val = (y 1).val; omega
  show f ((Rect.unit (s := S2x1024x4096) (slotOff s) S1x1024x4096.size (slotOff_inb s)).emb
      (Shape.reshapeEquiv squeezes_S1x1024x4096_S1024x4096.numel_eq y)) = _
  exact congrArg f e

/-- A load of a column block of the slot. -/
theorem load_cols (n : Fin 8) {off : Fin 3 → ℕ} (e : off = colOff s n) (inb : ∀ a, off a + S1x1024x512.size a ≤ S2x1024x4096.size a)
    (f : S2x1024x4096.Idx → Elt F .f32) :
    View.readAt (Elt F) accM.view (Rect.unit (s := S2x1024x4096) off S1x1024x512.size inb).toLoadRect f = cols n ((rslot s).view.read (Elt F) f) := by
  subst e
  funext y
  unfold cols
  rw [rslot_read]
  show f ((Rect.unit (s := S2x1024x4096) (colOff s n) S1x1024x512.size inb).emb y) = _
  congr 1
  funext a; refine Fin.ext ?_
  have h0 : (y 0).val < 1 := (y 0).isLt
  match a with
  | 0 => show s.val + 1 * (y 0).val = s.val; omega
  | 1 => show 0 + 1 * (y 1).val = (y 1).val; omega
  | 2 => show 512 * n.val + 1 * (y 2).val = 512 * n.val + (y 2).val; omega

/-- A load of a row block of the slot. -/
theorem load_rows (m : Fin 4) {off : Fin 3 → ℕ} (e : off = rowOff s m) (inb : ∀ a, off a + S1x256x4096.size a ≤ S2x1024x4096.size a)
    (f : S2x1024x4096.Idx → Elt F .f32) :
    View.readAt (Elt F) accM.view (Rect.unit (s := S2x1024x4096) off S1x256x4096.size inb).toLoadRect f = rows m ((rslot s).view.read (Elt F) f) := by
  subst e
  funext y
  unfold rows
  rw [rslot_read]
  show f ((Rect.unit (s := S2x1024x4096) (rowOff s m) S1x256x4096.size inb).emb y) = _
  congr 1
  funext a; refine Fin.ext ?_
  have h0 : (y 0).val < 1 := (y 0).isLt
  match a with
  | 0 => show s.val + 1 * (y 0).val = s.val; omega
  | 1 => show 256 * m.val + 1 * (y 1).val = 256 * m.val + (y 1).val; omega
  | 2 => show 0 + 1 * (y 2).val = (y 2).val; omega

/-- A store of a column block of the slot. -/
theorem store_cols (n : Fin 8) {off : Fin 3 → ℕ} (e : off = colOff s n) (inb : ∀ a, off a + S1x1024x512.size a ≤ S2x1024x4096.size a)
    (f : S2x1024x4096.Idx → Elt F .f32) (w : S1x1024x512.Idx → Elt F .f32) :
    (rslot s).view.read (Elt F) (View.write (Elt F) (accM.access (Rect.unit (s := S2x1024x4096) off S1x1024x512.size inb)) f w Finset.univ)
      = putCols n ((rslot s).view.read (Elt F) f) w := by
  subst e
  funext y
  rw [rslot_read]
  unfold putCols
  set v := accM.access (Rect.unit (s := S2x1024x4096) (colOff s n) S1x1024x512.size inb) with hv
  have hemb : ∀ z : S1x1024x512.Idx, v.emb z = ix3 s (z 1) ⟨512 * n.val + (z 2).val, by have h : (z 2).val < 512 := (z 2).isLt; have := n.isLt; omega⟩ := by
    intro z
    funext a; refine Fin.ext ?_
    have h0 : (z 0).val < 1 := (z 0).isLt
    match a with
    | 0 => show s.val + 1 * (z 0).val = s.val; omega
    | 1 => show 0 + 1 * (z 1).val = (z 1).val; omega
    | 2 => show 512 * n.val + 1 * (z 2).val = 512 * n.val + (z 2).val; omega
  split
  · rename_i h
    have hy : ix3 s (y 0) (y 1) = v.emb (ix3 0 (y 0) ⟨(y 1).val - 512 * n.val, by omega⟩) := by
      rw [hemb]
      refine congrArg (ix3 s (y 0)) (Fin.ext ?_)
      show (y 1).val = 512 * n.val + ((y 1).val - 512 * n.val); omega
    exact (congrArg (View.write (Elt F) v f w Finset.univ) hy).trans (View.write_emb_of_mem (v := v) f w (Finset.mem_univ _))
  · rename_i h
    rw [rslot_read]
    refine View.write_of_not_mem (v := v) f w _ ?_
    intro hm
    obtain ⟨z, -, hz⟩ := Finset.mem_map.mp hm
    rw [hemb] at hz
    have h2 : 512 * n.val + (z 2).val = (y 1).val := congrArg Fin.val (congrFun hz 2)
    have h512 : (z 2).val < 512 := (z 2).isLt
    exact h ⟨by omega, by omega⟩

/-- A store of a row block of the slot. -/
theorem store_rows (m : Fin 4) {off : Fin 3 → ℕ} (e : off = rowOff s m) (inb : ∀ a, off a + S1x256x4096.size a ≤ S2x1024x4096.size a)
    (f : S2x1024x4096.Idx → Elt F .f32) (w : S1x256x4096.Idx → Elt F .f32) :
    (rslot s).view.read (Elt F) (View.write (Elt F) (accM.access (Rect.unit (s := S2x1024x4096) off S1x256x4096.size inb)) f w Finset.univ)
      = putRows m ((rslot s).view.read (Elt F) f) w := by
  subst e
  funext y
  rw [rslot_read]
  unfold putRows
  set v := accM.access (Rect.unit (s := S2x1024x4096) (rowOff s m) S1x256x4096.size inb) with hv
  have hemb : ∀ z : S1x256x4096.Idx, v.emb z = ix3 s ⟨256 * m.val + (z 1).val, by have h : (z 1).val < 256 := (z 1).isLt; have := m.isLt; omega⟩ (z 2) := by
    intro z
    funext a; refine Fin.ext ?_
    have h0 : (z 0).val < 1 := (z 0).isLt
    match a with
    | 0 => show s.val + 1 * (z 0).val = s.val; omega
    | 1 => show 256 * m.val + 1 * (z 1).val = 256 * m.val + (z 1).val; omega
    | 2 => show 0 + 1 * (z 2).val = (z 2).val; omega
  split
  · rename_i h
    have hy : ix3 s (y 0) (y 1) = v.emb (ix3 0 ⟨(y 0).val - 256 * m.val, by omega⟩ (y 1)) := by
      rw [hemb]
      refine congrArg (fun t => ix3 s t (y 1)) (Fin.ext ?_)
      show (y 0).val = 256 * m.val + ((y 0).val - 256 * m.val); omega
    exact (congrArg (View.write (Elt F) v f w Finset.univ) hy).trans (View.write_emb_of_mem (v := v) f w (Finset.mem_univ _))
  · rename_i h
    rw [rslot_read]
    refine View.write_of_not_mem (v := v) f w _ ?_
    intro hm
    obtain ⟨z, -, hz⟩ := Finset.mem_map.mp hm
    rw [hemb] at hz
    have h2 : 256 * m.val + (z 1).val = (y 0).val := congrArg Fin.val (congrFun hz 1)
    have h256 : (z 1).val < 256 := (z 1).isLt
    exact h ⟨by omega, by omega⟩

end Access

/-- A load of a column block of the other factor. -/
theorem load_xcols (arg6 : Memref sig .tc .vmem S1024x4096 .fp8e4m3) (n : Fin 8) {off : Fin 2 → ℕ} (e : off = ![0, 512 * n.val])
    (inb : ∀ a, off a + S1024x512.size a ≤ S1024x4096.size a) (f : arg6.view.ty.Contents (Elt F)) :
    View.readAt (Elt F) arg6.view (Rect.unit (s := S1024x4096) off S1024x512.size inb).toLoadRect f = xcols n (arg6.view.read (Elt F) f) := by
  subst e
  funext y
  show arg6.view.read (Elt F) f ((Rect.unit (s := S1024x4096) ![0, 512 * n.val] S1024x512.size inb).emb y) = _
  unfold xcols
  congr 1
  funext a; refine Fin.ext ?_
  match a with
  | 0 => show 0 + 1 * (y 0).val = (y 0).val; omega
  | 1 => show 512 * n.val + 1 * (y 1).val = 512 * n.val + (y 1).val; omega

/-- A load of one window of a table of 64 rows. -/
theorem load_tabRow {e : EltTy} (M : Memref sig .tc .vmem S64x1x256 e) (w : Fin 64) {off : Fin 3 → ℕ} (h : off = rowAt w)
    (inb : ∀ a, off a + S1x1x256.size a ≤ S64x1x256.size a) (f : M.view.ty.Contents (Elt F)) :
    View.readAt (Elt F) M.view (Rect.unit (s := S64x1x256) off S1x1x256.size inb).toLoadRect f = tabRow w (M.view.read (Elt F) f) := by
  subst h
  funext y
  show M.view.read (Elt F) f ((Rect.unit (s := S64x1x256) (rowAt w) S1x1x256.size inb).emb y) = _
  unfold tabRow
  congr 1
  funext a; refine Fin.ext ?_
  have h0 : (y 0).val < 1 := (y 0).isLt
  have h1 : (y 1).val < 1 := (y 1).isLt
  match a with
  | 0 => show w.val + 1 * (y 0).val = w.val; omega
  | 1 => show 0 + 1 * (y 1).val = 0; omega
  | 2 => show 0 + 1 * (y 2).val = (y 2).val; omega

/-! ## The steps -/

/-- Column block `n` of the product added to the slot. -/
def mulCols (lhs : Vec F S1024x1024 .bf16) (x : Vec F S1024x4096 .fp8e4m3) (n : Fin 8) (a : Vec F S1024x4096 .f32) : Vec F S1024x4096 .f32 :=
  putCols n a (k0_pay11 (cols n a) lhs (xcols n x))
/-- One grid point's product, all eight column blocks. -/
def stepA (lhs : Vec F S1024x1024 .bf16) (x : Vec F S1024x4096 .fp8e4m3) (a : Vec F S1024x4096 .f32) : Vec F S1024x4096 .f32 :=
  mulCols lhs x 7 (mulCols lhs x 6 (mulCols lhs x 5 (mulCols lhs x 4 (mulCols lhs x 3 (mulCols lhs x 2 (mulCols lhs x 1 (mulCols lhs x 0 a)))))))

/-- What a row block stores, its first row `off` rows into the chunk: the embedding rows of one window, each scaled
    and put in its row, added to the block. -/
def embPay (off : BitVec 32) (arg0 : BitVec 32) (v275 : Vec F S1x1x256 .i32) (v280 : Vec F S1x1x256 .f32) (v288 : Vec F S1x256x4096 .f32) (v290 : Vec F S256x4096 .fp8e5m2) : FVec F S1x256x4096 .f32 :=
  let v269 : BitVec 32 := Scalar.muli arg0 1024#32
  let v270 : BitVec 32 := Scalar.addi v269 off
  have v271 : IVec S256x256 32 := iota .tc S256x256 32 [0] iota_S256x256_d0_w32
  have v272 : IVec S256x256 32 := broadcast S256x256 v270
  have v273 : IVec S256x256 32 := addi v272 v271
  have v276 : IVec S1x256 32 := shapeCast S1x256 v275 shapeCasts_S1x1x256_S1x256
  have v277 : IVec S256x256 32 := broadcastTo S256x256 v276 broadcasts_S1x256_S256x256
  have v278 : IVec S256x256 1 := cmpi .eq v277 v273
  have v281 : FVec F S1x256 .f32 := shapeCast S1x256 v280 shapeCasts_S1x1x256_S1x256
  have cst_152 : F .f32 := Scalar.ofBits .f32 0x00000000#32
  have v282 : FVec F S1x256 .f32 := shapeCast S1x256 v281 shapeCasts_S1x256_S1x256
  have v283 : FVec F S256x256 .f32 := broadcastTo S256x256 v282 broadcasts_S1x256_S256x256
  have v284 : FVec F S256x256 .f32 := broadcast S256x256 cst_152
  have v285 : FVec F S256x256 .f32 := select v278 v283 v284
  have v286 : FVec F S256x256 .bf16 := truncf .bf16 v285 bitsLt_bf16_f32
  have v289 : FVec F S256x4096 .f32 := shapeCast S256x4096 v288 shapeCasts_S1x256x4096_S256x4096
  have cst_157 : FVec F S256x4096 .f32 := constant S256x4096 .f32 0x00000000#32
  have v291 : FVec F S256x4096 .f32 := matmul dot_S256x256_S256x4096_S256x4096_1_0_0_1_n_n none v286 v290 cst_157
  have v292 : FVec F S256x4096 .f32 := addf v289 v291
  have v296 : FVec F S1x256x4096 .f32 := shapeCast S1x256x4096 v292 shapeCasts_S256x4096_S1x256x4096
  v296

/-- The four row blocks' payloads are that one. -/
theorem pay3_eq : k0_pay3 (F := F) = embPay 0#32 := rfl
theorem pay4_eq : k0_pay4 (F := F) = embPay 256#32 := rfl
theorem pay5_eq : k0_pay5 (F := F) = embPay 512#32 := rfl
theorem pay1_eq : k0_pay1 (F := F) = embPay 768#32 := rfl

/-- One window's rows added to row block `m`, where the window meets the block's rows `lo … hi`. -/
def addRows (arg0 : BitVec 32) (ids : Vec F S1x1x256 .i32) (es : Vec F S1x1x256 .f32) (e : Vec F S256x4096 .fp8e5m2) (w : ℕ) (lo hi : BitVec 32)
    (m : Fin 4) (a : Vec F S1024x4096 .f32) : Vec F S1024x4096 .f32 :=
  if Meets w lo hi then putRows m a (embPay (BitVec.ofNat 32 (256 * m.val)) arg0 ids es (rows m a) e) else a

/-- The eight column blocks' payloads are one. -/
theorem pay12_eq : k0_pay12 (F := F) = k0_pay11 := rfl
theorem pay15_eq (a) (l) (x) : k0_pay15 (F := F) (k0_pay13 a) l (k0_pay14 x) = k0_pay11 a l x := rfl
theorem pay16_eq : k0_pay16 (F := F) = k0_pay11 := rfl
theorem pay17_eq : k0_pay17 (F := F) = k0_pay11 := rfl
theorem pay19_eq (a) (l) (x) : k0_pay19 (F := F) (k0_pay18 a) l x = k0_pay11 a l x := rfl
theorem pay20_eq : k0_pay20 (F := F) = k0_pay11 := rfl
theorem pay21_eq : k0_pay21 (F := F) = k0_pay11 := rfl

end Cert.Proof.Run

end
-- ==== Proof.Mid.lean ====
/-
  The middle of the body: `lhs` stored, and `lhs · x` added to the slot, eight column blocks.

  The printed body has this stretch in three parts. Each part's run takes the slot at contents `a` to the slot at the
  column steps it performs (Steps.lean); between two parts a block's loaded values are carried over.
-/
module

public import proofs.«01_k».proof.Proof.Steps

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

/-! ## The pieces held -/

section Pieces
variable (c : Dev nD)

/-- Slot `s` held at the accumulator contents `f`. -/
abbrev slotP (s : Fin 2) (f : Buf (Elt F) ((rslot s).view.loc (c : Thread nD τ))) : sProp 𝕄 :=
  (rslot s).view.loc (c : Thread nD τ) ↦[(rslot s).view.set]{fullShare} f
/-- Slot `s` held, its 1024 × 4096 numbers being `a`. -/
def slotAt (s : Fin 2) (a : Vec F S1024x4096 .f32) : sProp 𝕄 := iprop(∃ f, ⌜(rslot s).view.read (Elt F) f = a⌝ ∗ slotP c s f)
/-- Slot `s` held at any contents. -/
def slotAny (s : Fin 2) : sProp 𝕄 := iprop(∃ f, slotP c s f)
/-- A whole memref held at contents `f`. -/
abbrev memP {sp : Space} {s : Shape} {e : EltTy} (M : Memref sig .tc sp s e) (f : Buf (Elt F) (M.view.loc (c : Thread nD τ))) : sProp 𝕄 :=
  M.view.loc (c : Thread nD τ) ↦[M.view.set]{fullShare} f
/-- A table held at contents `f`, at the half share the body has of it. -/
abbrev tabP {sp : Space} {s : Shape} {e : EltTy} (M : Memref sig .tc sp s e) (f : Buf (Elt F) (M.view.loc (c : Thread nD τ))) : sProp 𝕄 :=
  M.view.loc (c : Thread nD τ) ↦[M.view.set]{fullShare.right} f
/-- The scaled gradient's buffer, holding `L`. -/
def lhsAt (L : Vec F S1024x1024 .bf16) : sProp 𝕄 := iprop(∃ f, ⌜lhsM.view.read (Elt F) f = L⌝ ∗ memP c lhsM f)

end Pieces

/-- One column step, read back: what the slot holds after `lhs` times a column block was added to it. -/
theorem step_val (s : Fin 2) (n : Fin 8) {off : Fin 3 → Nat} (e : off = colOff s n) (inb)
    {f : S2x1024x4096.Idx → Elt F .f32} {a : Vec F S1024x4096 .f32} (hf : (rslot s).view.read (Elt F) f = a)
    {l L : FVec F S1024x1024 .bf16} (hl : l = L) {x : Vec F S1024x4096 .fp8e4m3} {v : Vec F S1x1024x512 .f32} (hv : v = cols n a)
    {y : Vec F S1024x512 .fp8e4m3} (hy : y = xcols n x) :
    (rslot s).view.read (Elt F) (View.write (Elt F) (accM.access (Rect.unit (s := S2x1024x4096) off S1x1024x512.size inb)) f (k0_pay11 v l y) Finset.univ)
      = mulCols L x n a := by
  subst hl hf hv hy
  exact store_cols s n e inb f _

theorem step_read (s : Fin 2) (n : Fin 8) {off : Fin 3 → Nat} (e : off = colOff s n) (inb inb')
    {arg6 : Memref sig .tc .vmem S1024x4096 .fp8e4m3} {off6 : Fin 2 → Nat} (e6 : off6 = ![0, 512 * n.val]) (inb6)
    {f : S2x1024x4096.Idx → Elt F .f32} {a : Vec F S1024x4096 .f32} (hf : (rslot s).view.read (Elt F) f = a)
    {l L : FVec F S1024x1024 .bf16} (hl : l = L) (f6 : arg6.view.ty.Contents (Elt F)) :
    (rslot s).view.read (Elt F) (View.write (Elt F) (accM.access (Rect.unit (s := S2x1024x4096) off S1x1024x512.size inb)) f
        (k0_pay11 (View.readAt (Elt F) accM.view (Rect.unit (s := S2x1024x4096) off S1x1024x512.size inb').toLoadRect f) l
          (View.readAt (Elt F) arg6.view (Rect.unit (s := S1024x4096) off6 S1024x512.size inb6).toLoadRect f6)) Finset.univ)
      = mulCols L (arg6.view.read (Elt F) f6) n a :=
  step_val s n e inb hf hl ((load_cols s n e inb' f).trans (congrArg (cols n) hf)) (load_xcols arg6 n e6 inb6 f6)

theorem entails_of_eq {P Q : sProp 𝕄} (e : P = Q) : P ⊢ Q := e ▸ .rfl

theorem ret7 {v v' : Vec F S1x1024x512 .f32} {l l' : Vec F S1024x1024 .bf16} {y y' : Vec F S1024x512 .fp8e4m3} (hv : v = v') (hl : l = l') (hy : y = y') :
    (⟨k0_pay13 v', l', k0_pay14 y'⟩ : Σ' (v61 : FVec F S1024x512 .f32) (v62 : Vec F S1024x1024 .bf16), FVec F S1024x512 .fp8e4m3) = ⟨k0_pay13 v, l, k0_pay14 y⟩ := by
  subst hv hl hy; rfl

section Mid
variable (c : Dev nD) (i : grid0.Coords)
  (arg2 : Memref sig .tc .smem S81 .i32) (harg2 : arg2.IsWhole)
  (arg3 : Memref sig .tc .vmem S1024x1024 .fp8e5m2) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x4096 .fp8e4m3) (harg6 : arg6.IsWhole)
  (arg7 : Memref sig .tc .vmem S64x1x256 .i32) (harg7 : arg7.IsWhole)
  (arg8 : Memref sig .tc .vmem S64x1x256 .f32) (harg8 : arg8.IsWhole)
  (a : Vec F S1024x4096 .f32) (f6 : Buf (Elt F) (arg6.view.loc (c : Thread nD τ)))

abbrev prog7 (v0 : BitVec 32) (v31 : FVec F S1024x1024 .bf16) :=
  k0_part7 (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 v0 v31
abbrev prog8 (v0 : BitVec 32) (v61 : FVec F S1024x512 .f32) (v62 : Vec F S1024x1024 .bf16) (v64 : FVec F S1024x512 .fp8e4m3) :=
  k0_part8 (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 v0 v61 v62 v64
abbrev prog9 (v0 : BitVec 32) (v97 : FVec F S1024x512 .f32) :=
  k0_part9 (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 v0 v97

theorem run7 (v0 : BitVec 32) (v31 : FVec F S1024x1024 .bf16)
    (Q : (Σ' (v61 : FVec F S1024x512 .f32) (v62 : Vec F S1024x1024 .bf16), FVec F S1024x512 .fp8e4m3) → sProp 𝕄) :
    iprop(slotAt c (Ring.sl 2 (i 0).val) a ∗ memP c arg6 f6 ∗ (∃ f13, memP c lhsM f13)
      ∗ ((slotAt c (Ring.sl 2 (i 0).val) (mulCols (k0_pay10 v31) (arg6.view.read (Elt F) f6) 1 (mulCols (k0_pay10 v31) (arg6.view.read (Elt F) f6) 0 a))
            ∗ memP c arg6 f6 ∗ lhsAt c (k0_pay10 v31))
          -∗ Q ⟨k0_pay13 (cols 2 (mulCols (k0_pay10 v31) (arg6.view.read (Elt F) f6) 1 (mulCols (k0_pay10 v31) (arg6.view.read (Elt F) f6) 0 a))),
                k0_pay10 v31, k0_pay14 (xcols 2 (arg6.view.read (Elt F) f6))⟩))
      ⊢ wp frame (wpE (defs₀ (F := F)) 𝒱₀ (c : Thread nD τ) none) Set.univ
          (prog7 i arg2 harg2 arg3 harg3 arg4 harg4 arg5 harg5 arg6 harg6 arg7 harg7 arg8 harg8 v0 v31) Q := by
  unfold slotAt lhsAt
  iintro ⟨⟨%f, %hf, Hs⟩, H6, ⟨%f13, H13⟩, Hk⟩
  dsimp only [prog7]
  rw [k0_part7_eq_skeleton]
  unfold k0_part7_skel
  sl_exec
  sl_step
  have e38 : run7.sl.v38 v31 = k0_pay10 v31 := by
    unfold run7.sl.v38 run7.sl.H13_1
    exact View.readCov_full _ _ _ _ _
  have hL : lhsM.view.read (Elt F) (lhsM.view.writes (Elt F) f13 (run7.sl.H13_1 v31)) = k0_pay10 v31 := by
    unfold run7.sl.H13_1
    exact View.read_writes_full _ _ _ _ _
  have e1 : (rslot (Ring.sl 2 (i 0).val)).view.read (Elt F) (run7.sl.Hs_w1 c i arg6 f6 v31 f) = mulCols (k0_pay10 v31) (arg6.view.read (Elt F) f6) 0 a :=
    step_read _ 0 (off7_eq i) (k0_off7_inb i) (k0_off7_inb i) rfl inb_S1024x4096_S1024x512_0_0 hf e38 f6
  have e2 : (rslot (Ring.sl 2 (i 0).val)).view.read (Elt F) (run7.sl.Hs_w2 c i arg6 f6 v31 f) = mulCols (k0_pay10 v31) (arg6.view.read (Elt F) f6) 1 (mulCols (k0_pay10 v31) (arg6.view.read (Elt F) f6) 0 a) :=
    step_read _ 1 (off8_eq i) (k0_off8_inb i) (k0_off8_inb i) rfl inb_S1024x4096_S1024x512_0_512 e1 e38 f6
  iapply (entails_of_eq (congrArg Q (ret7 ((load_cols (Ring.sl 2 (i 0).val) 2 (off9_eq i) (k0_off9_inb i) (run7.sl.Hs_w2 c i arg6 f6 v31 f)).trans (congrArg (cols 2) e2)) e38 (load_xcols arg6 2 rfl inb_S1024x4096_S1024x512_0_1024 f6))))
  iapply Hk
  isplitl [Hs]
  · iexists _
    isplitr
    · ipureintro; exact e2
    · iexact Hs
  isplitl [H6]; · iexact H6
  iexists _
  isplitr
  · ipureintro; exact hL
  · iexact H13

theorem run8 (v0 : BitVec 32) (L : FVec F S1024x1024 .bf16) (Q : FVec F S1024x512 .f32 → sProp 𝕄) :
    iprop(slotAt c (Ring.sl 2 (i 0).val) a ∗ memP c arg6 f6 ∗ lhsAt c L
      ∗ ((slotAt c (Ring.sl 2 (i 0).val) (mulCols L (arg6.view.read (Elt F) f6) 4 (mulCols L (arg6.view.read (Elt F) f6) 3 (mulCols L (arg6.view.read (Elt F) f6) 2 a))) ∗ memP c arg6 f6 ∗ lhsAt c L)
          -∗ Q (k0_pay18 (cols 5 (mulCols L (arg6.view.read (Elt F) f6) 4 (mulCols L (arg6.view.read (Elt F) f6) 3 (mulCols L (arg6.view.read (Elt F) f6) 2 a)))))))
      ⊢ wp frame (wpE (defs₀ (F := F)) 𝒱₀ (c : Thread nD τ) none) Set.univ
          (prog8 i arg2 harg2 arg3 harg3 arg4 harg4 arg5 harg5 arg6 harg6 arg7 harg7 arg8 harg8 v0 (k0_pay13 (cols 2 a)) L (k0_pay14 (xcols 2 (arg6.view.read (Elt F) f6)))) Q := by
  unfold slotAt lhsAt
  iintro ⟨⟨%f, %hf, Hs⟩, H6, ⟨%f13, %hL, H13⟩, Hk⟩
  dsimp only [prog8]
  rw [k0_part8_eq_skeleton]
  unfold k0_part8_skel
  sl_exec
  sl_step
  have hl : View.readAt (Elt F) lhsM.view (Rect.unit (s := S1024x1024) ![0, 0] S1024x1024.size inb_S1024x1024_S1024x1024_0_0).toLoadRect f13 = L :=
    (View.readAt_full _ _ _).trans hL
  have e1 : (rslot (Ring.sl 2 (i 0).val)).view.read (Elt F) (run8.sl.Hs_w1 c i arg6 a f6 L f) = (mulCols L (arg6.view.read (Elt F) f6) 2 a) :=
    step_val _ 2 (off9_eq i) (k0_off9_inb i) hf rfl rfl rfl
  have e2 : (rslot (Ring.sl 2 (i 0).val)).view.read (Elt F) (run8.sl.Hs_w2 c i arg6 a f6 L f f13) = (mulCols L (arg6.view.read (Elt F) f6) 3 (mulCols L (arg6.view.read (Elt F) f6) 2 a)) :=
    step_read _ 3 (off10_eq i) (k0_off10_inb i) (k0_off10_inb i) rfl inb_S1024x4096_S1024x512_0_1536 e1 hl f6
  have e3 : (rslot (Ring.sl 2 (i 0).val)).view.read (Elt F) (run8.sl.Hs_w3 c i arg6 a f6 L f f13) = (mulCols L (arg6.view.read (Elt F) f6) 4 (mulCols L (arg6.view.read (Elt F) f6) 3 (mulCols L (arg6.view.read (Elt F) f6) 2 a))) :=
    step_read _ 4 (off11_eq i) (k0_off11_inb i) (k0_off11_inb i) rfl inb_S1024x4096_S1024x512_0_2048 e2 hl f6
  iapply (entails_of_eq (congrArg (fun w => Q (k0_pay18 w)) ((load_cols _ 5 (off12_eq i) (k0_off12_inb i) _).trans (congrArg (cols 5) e3)).symm))
  iapply Hk
  isplitl [Hs]
  · iexists _
    isplitr
    · ipureintro; exact e3
    · iexact Hs
  isplitl [H6]; · iexact H6
  iexists _
  isplitr
  · ipureintro; exact hL
  · iexact H13

theorem run9 (v0 : BitVec 32) (L : FVec F S1024x1024 .bf16) (Q : PUnit → sProp 𝕄) :
    iprop(slotAt c (Ring.sl 2 (i 0).val) a ∗ memP c arg6 f6 ∗ lhsAt c L
      ∗ ((slotAt c (Ring.sl 2 (i 0).val) (mulCols L (arg6.view.read (Elt F) f6) 7 (mulCols L (arg6.view.read (Elt F) f6) 6 (mulCols L (arg6.view.read (Elt F) f6) 5 a))) ∗ memP c arg6 f6 ∗ lhsAt c L) -∗ Q ⟨⟩))
      ⊢ wp frame (wpE (defs₀ (F := F)) 𝒱₀ (c : Thread nD τ) none) Set.univ
          (prog9 i arg2 harg2 arg3 harg3 arg4 harg4 arg5 harg5 arg6 harg6 arg7 harg7 arg8 harg8 v0 (k0_pay18 (cols 5 a))) Q := by
  unfold slotAt lhsAt
  iintro ⟨⟨%f, %hf, Hs⟩, H6, ⟨%f13, %hL, H13⟩, Hk⟩
  dsimp only [prog9]
  rw [k0_part9_eq_skeleton]
  unfold k0_part9_skel
  sl_exec
  sl_step
  have hl : View.readAt (Elt F) lhsM.view (Rect.unit (s := S1024x1024) ![0, 0] S1024x1024.size inb_S1024x1024_S1024x1024_0_0).toLoadRect f13 = L :=
    (View.readAt_full _ _ _).trans hL
  have e1 : (rslot (Ring.sl 2 (i 0).val)).view.read (Elt F) (run9.sl.Hs_w1 c i arg6 a f6 f f13) = (mulCols L (arg6.view.read (Elt F) f6) 5 a) :=
    step_val _ 5 (off12_eq i) (k0_off12_inb i) hf hl rfl (load_xcols arg6 5 rfl _ f6)
  have e2 : (rslot (Ring.sl 2 (i 0).val)).view.read (Elt F) (run9.sl.Hs_w2 c i arg6 a f6 f f13) = (mulCols L (arg6.view.read (Elt F) f6) 6 (mulCols L (arg6.view.read (Elt F) f6) 5 a)) :=
    step_read _ 6 (off13_eq i) (k0_off13_inb i) (k0_off13_inb i) rfl inb_S1024x4096_S1024x512_0_3072 e1 hl f6
  have e3 : (rslot (Ring.sl 2 (i 0).val)).view.read (Elt F) (run9.sl.Hs_w3 c i arg6 a f6 f f13) = (mulCols L (arg6.view.read (Elt F) f6) 7 (mulCols L (arg6.view.read (Elt F) f6) 6 (mulCols L (arg6.view.read (Elt F) f6) 5 a))) :=
    step_read _ 7 (off14_eq i) (k0_off14_inb i) (k0_off14_inb i) rfl inb_S1024x4096_S1024x512_0_3584 e2 hl f6
  iapply Hk
  isplitl [Hs]
  · iexists _
    isplitr
    · ipureintro; exact e3
    · iexact Hs
  isplitl [H6]; · iexact H6
  iexists _
  isplitr
  · ipureintro; exact hL
  · iexact H13
/-- The whole middle, before any continuation: the slot steps by all eight column blocks. -/
theorem midRun (v0 : BitVec 32) (v31 : FVec F S1024x1024 .bf16) {β : Type} (K : PUnit → Prog (TpuEff nD τ sig (Elt F) Λ₀ .tc) β) (Q : β → sProp 𝕄) :
    iprop(slotAt c (Ring.sl 2 (i 0).val) a ∗ memP c arg6 f6 ∗ (∃ f13, memP c lhsM f13)
      ∗ ((slotAt c (Ring.sl 2 (i 0).val) (stepA (k0_pay10 v31) (arg6.view.read (Elt F) f6) a) ∗ memP c arg6 f6 ∗ (∃ f13, memP c lhsM f13))
          -∗ wp frame (wpE (defs₀ (F := F)) 𝒱₀ (c : Thread nD τ) none) Set.univ (K ⟨⟩) Q))
      ⊢ wp frame (wpE (defs₀ (F := F)) 𝒱₀ (c : Thread nD τ) none) Set.univ
          (do
            let ⟨v61, v62, v64⟩ ← prog7 i arg2 harg2 arg3 harg3 arg4 harg4 arg5 harg5 arg6 harg6 arg7 harg7 arg8 harg8 v0 v31
            let v97 ← prog8 i arg2 harg2 arg3 harg3 arg4 harg4 arg5 harg5 arg6 harg6 arg7 harg7 arg8 harg8 v0 v61 v62 v64
            prog9 i arg2 harg2 arg3 harg3 arg4 harg4 arg5 harg5 arg6 harg6 arg7 harg7 arg8 harg8 v0 v97
            K ⟨⟩) Q := by
  iintro ⟨Hs, H6, H13, Hk⟩
  rw [wp_bind]
  iapply run7
  isplitl [Hs]; · iexact Hs
  isplitl [H6]; · iexact H6
  isplitl [H13]; · iexact H13
  iintro ⟨Hs, H6, H13⟩
  dsimp only
  rw [wp_bind]
  iapply run8
  isplitl [Hs]; · iexact Hs
  isplitl [H6]; · iexact H6
  isplitl [H13]; · iexact H13
  iintro ⟨Hs, H6, H13⟩
  rw [wp_bind]
  iapply run9
  isplitl [Hs]; · iexact Hs
  isplitl [H6]; · iexact H6
  isplitl [H13]; · iexact H13
  iintro ⟨Hs, H6, H13⟩
  iapply Hk
  isplitl [Hs]; · iexact Hs
  isplitl [H6]; · iexact H6
  unfold lhsAt
  icases H13 with ⟨%f13, -, H13⟩
  iexists f13
  iexact H13

end Mid
end Cert.Proof.Run
-- ==== Proof.Trip.lean ====
/-
  One window of the embedding part: the window's rows fetched, then four row blocks of the slot, each added to when the
  window meets it.
-/
module

public import proofs.«01_k».proof.Proof.Mid

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

/-! ## The table's words -/

/-- Word `j` of a table. -/
def word (T : S81.Idx → BitVec 32) (j : ℕ) : BitVec 32 := T (ix1 (Fin.ofNat 81 j))

section Table
variable (i : grid0.Coords)
theorem isInt_c4 (m : ℕ) (h : m ≤ 4) : IsInt (Scalar.addi (Scalar.muli (BitVec.ofNat 32 (i 0).val) 4#32) (BitVec.ofNat 32 m)) (4 * (i 0).val + m : ℕ) := by
  have := c_lt i
  exact addi (e := (4 * (i 0).val + m : ℕ)) (muli (e := (4 * (i 0).val : ℕ)) (isInt_c i) (ofNat (e := 4) 4 ⟨rfl, by decide⟩) ⟨by push_cast; omega, by omega, by push_cast; omega⟩)
    (ofNat (e := (m : Int)) m ⟨rfl, by omega⟩) ⟨by push_cast; omega, by omega, by push_cast; omega⟩
theorem isInt_c4s (m : ℕ) (h : m ≤ 3) : IsInt (Scalar.addi (Scalar.addi (Scalar.muli (BitVec.ofNat 32 (i 0).val) 4#32) (BitVec.ofNat 32 m)) 1#32) (4 * (i 0).val + (m + 1) : ℕ) := by
  have := c_lt i
  exact addi (e := (4 * (i 0).val + (m + 1) : ℕ)) (isInt_c4 i m (by omega)) (ofNat (e := 1) 1 ⟨rfl, by decide⟩) ⟨by push_cast; omega, by omega, by push_cast; omega⟩
theorem off18_eq : k0_off18 i = ![4 * (i 0).val + 0] := vec_cons (indexCast (isInt_c4 i 0 (by decide))) rfl rfl
theorem off19_eq : k0_off19 i = ![4 * (i 0).val + 1] := vec_cons (indexCast (isInt_c4s i 0 (by decide))) rfl rfl
theorem off22_eq : k0_off22 i = ![4 * (i 0).val + 1] := vec_cons (indexCast (isInt_c4 i 1 (by decide))) rfl rfl
theorem off23_eq : k0_off23 i = ![4 * (i 0).val + 2] := vec_cons (indexCast (isInt_c4s i 1 (by decide))) rfl rfl
theorem off26_eq : k0_off26 i = ![4 * (i 0).val + 2] := vec_cons (indexCast (isInt_c4 i 2 (by decide))) rfl rfl
theorem off27_eq : k0_off27 i = ![4 * (i 0).val + 3] := vec_cons (indexCast (isInt_c4s i 2 (by decide))) rfl rfl
theorem off30_eq : k0_off30 i = ![4 * (i 0).val + 3] := vec_cons (indexCast (isInt_c4 i 3 (by decide))) rfl rfl
theorem off31_eq : k0_off31 i = ![4 * (i 0).val + 4] := vec_cons (indexCast (isInt_c4s i 3 (by decide))) rfl rfl
theorem off15_eq : k0_off15 i = ![4 * (i 0).val + 0] := by
  have := c_lt i
  exact vec_cons (indexCast (muli (e := (4 * (i 0).val : ℕ)) (isInt_c i) (ofNat (e := 4) 4 ⟨rfl, by decide⟩) ⟨by push_cast; omega, by omega, by push_cast; omega⟩)) rfl rfl
theorem off16_eq : k0_off16 i = ![4 * (i 0).val + 4] := by
  have := c_lt i
  exact vec_cons (indexCast (muli (e := (4 * (i 0).val + 4 : ℕ)) (addi (e := ((i 0).val + 1 : ℕ)) (isInt_c i) (ofNat (e := 1) 1 ⟨rfl, by decide⟩) ⟨by omega, by omega, by omega⟩)
    (ofNat (e := 4) 4 ⟨rfl, by decide⟩) ⟨by push_cast; omega, by omega, by push_cast; omega⟩)) rfl rfl
end Table

/-- A word loaded from the table. -/
theorem load_word (arg2 : Memref sig .tc .smem S81 .i32) (T : arg2.view.ty.Contents (Elt F)) {off : Fin 1 → ℕ} {j : ℕ} (e : off = ![j]) (hj : j < 81)
    (inb : ∀ a, off a + S1.size a ≤ S81.size a) (y : S1.Idx) :
    View.readAt (Elt F) arg2.view (Rect.unit (s := S81) off S1.size inb).toLoadRect T y = word (arg2.view.read (Elt F) T) j := by
  subst e
  show arg2.view.read (Elt F) T ((Rect.unit (s := S81) ![j] S1.size inb).emb y) = _
  unfold word
  refine congrArg (arg2.view.read (Elt F) T) ?_
  funext a; refine Fin.ext ?_
  have h0 : (y 0).val < 1 := (y 0).isLt
  fin_cases a
  show j + 1 * (y 0).val = j % 81
  rw [Nat.mod_eq_of_lt hj]; omega

/-- One row block's addition, read back. -/
theorem emb_read (s : Fin 2) (m : Fin 4) (w : Fin 64) {off : Fin 3 → ℕ} (e : off = rowOff s m) (inb inb') (b arg0 : BitVec 32)
    {f : S2x1024x4096.Idx → Elt F .f32} {a : Vec F S1024x4096 .f32} (hf : (rslot s).view.read (Elt F) f = a)
    {arg7 : Memref sig .tc .vmem S64x1x256 .i32} {arg8 : Memref sig .tc .vmem S64x1x256 .f32} {off7 : Fin 3 → ℕ} (e7 : off7 = rowAt w) (inb7 inb8)
    (f7 : arg7.view.ty.Contents (Elt F)) (f8 : arg8.view.ty.Contents (Elt F)) {x E : Vec F S256x4096 .fp8e5m2} (hx : x = E) :
    (rslot s).view.read (Elt F) (View.write (Elt F) (accM.access (Rect.unit (s := S2x1024x4096) off S1x256x4096.size inb)) f
        (embPay b arg0 (View.readAt (Elt F) arg7.view (Rect.unit (s := S64x1x256) off7 S1x1x256.size inb7).toLoadRect f7)
          (View.readAt (Elt F) arg8.view (Rect.unit (s := S64x1x256) off7 S1x1x256.size inb8).toLoadRect f8)
          (View.readAt (Elt F) accM.view (Rect.unit (s := S2x1024x4096) off S1x256x4096.size inb').toLoadRect f) x) Finset.univ)
      = putRows m a (embPay b arg0 (tabRow w (arg7.view.read (Elt F) f7)) (tabRow w (arg8.view.read (Elt F) f8)) (rows m a) E) := by
  subst hf hx
  refine (store_rows s m e inb f _).trans (congrArg (putRows m _) ?_)
  rw [load_tabRow arg7 w e7, load_tabRow arg8 w e7, load_rows s m e]

/-- One row block's step: the addition happens exactly when the window meets the block. -/
theorem if_read (s : Fin 2) (m : Fin 4) {cond : BitVec 1} {w : ℕ} {lo hi : BitVec 32} (h : cond = 1#1 ↔ Meets w lo hi)
    {f : S2x1024x4096.Idx → Elt F .f32} {a : Vec F S1024x4096 .f32} (hf : (rslot s).view.read (Elt F) f = a)
    {g : cond = 1#1 → S2x1024x4096.Idx → Elt F .f32} {arg0 : BitVec 32} {ids : Vec F S1x1x256 .i32} {es : Vec F S1x1x256 .f32} {E : Vec F S256x4096 .fp8e5m2}
    (hg : ∀ hc, (rslot s).view.read (Elt F) (g hc) = putRows m a (embPay (BitVec.ofNat 32 (256 * m.val)) arg0 ids es (rows m a) E)) :
    (rslot s).view.read (Elt F) (if hc : cond = 1#1 then g hc else f) = addRows arg0 ids es E w lo hi m a := by
  unfold addRows
  by_cases hc : cond = 1#1
  · rw [if_pos (h.1 hc)]; exact (congrArg ((rslot s).view.read (Elt F)) (dif_pos hc)).trans (hg hc)
  · rw [if_neg (fun h' => hc (h.2 h'))]; exact (congrArg ((rslot s).view.read (Elt F)) (dif_neg hc)).trans hf

/-- Row block `m`'s step at chunk `n` and window `w`. -/
abbrev rowStep (tab : S81.Idx → BitVec 32) (ids : Vec F S64x1x256 .i32) (es : Vec F S64x1x256 .f32) (E : Vec F S256x4096 .fp8e5m2) (arg0 : BitVec 32) (n : ℕ) (w : Fin 64)
    (m : Fin 4) (a : Vec F S1024x4096 .f32) : Vec F S1024x4096 .f32 :=
  addRows arg0 (tabRow w ids) (tabRow w es) E w.val (word tab (4 * n + m.val)) (word tab (4 * n + m.val + 1)) m a
/-- One window's trip: the four row blocks in order. -/
def tripStep (tab : S81.Idx → BitVec 32) (ids : Vec F S64x1x256 .i32) (es : Vec F S64x1x256 .f32) (E : Vec F S256x4096 .fp8e5m2) (arg0 : BitVec 32) (n : ℕ) (w : Fin 64)
    (a : Vec F S1024x4096 .f32) : Vec F S1024x4096 .f32 :=
  rowStep tab ids es E arg0 n w 3 (rowStep tab ids es E arg0 n w 2 (rowStep tab ids es E arg0 n w 1 (rowStep tab ids es E arg0 n w 0 a)))

section Trip
variable (c : Dev nD) (i : grid0.Coords)
  (arg2 : Memref sig .tc .smem S81 .i32) (harg2 : arg2.IsWhole)
  (arg3 : Memref sig .tc .vmem S1024x1024 .fp8e5m2) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x4096 .fp8e4m3) (harg6 : arg6.IsWhole)
  (arg7 : Memref sig .tc .vmem S64x1x256 .i32) (harg7 : arg7.IsWhole)
  (arg8 : Memref sig .tc .vmem S64x1x256 .f32) (harg8 : arg8.IsWhole)
  (arg0 v0 : BitVec 32) (h5 : k0_cond5 i = 1#1) (lo hi : BitVec 32) (hw1 : k0_chk1 i lo hi)
  (hlo : Small lo) (hhi : Small hi) (k : Fin (k0_t1_loop lo hi).trips)
  (T : Buf (Elt F) (arg2.view.loc (c : Thread nD τ))) (f7 : Buf (Elt F) (arg7.view.loc (c : Thread nD τ))) (f8 : Buf (Elt F) (arg8.view.loc (c : Thread nD τ)))
  (XE : Buf (Elt F) (eM.view.loc (c : Thread nD τ)))
  (a : Vec F S1024x4096 .f32)

@[sl_canon] theorem e17 (hlo : Small lo) (hhi : Small hi) (hh hs) :
    eM.slice (Rect.unit (s := S16384x4096) (k0_off17 lo hi k) S256x4096.size hh) hs = eW (Ring.bk 64 (wLo lo + k.val)) := eW_congr (off17_eq hlo hhi k) _ _

abbrev cellP (sem : DmaSems sig S_) : sProp 𝕄 := semVal ((c : Thread nD τ), SemLoc.dma sem.sem) 0
abbrev eWP (w : Fin 64) : sProp 𝕄 := (eW w).view.loc (c : Thread nD τ) ↦[(eW w).view.set]{fullShare} XE

abbrev progT (v157 : BitVec 32) :=
  k0_t1_body (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 arg0 v0 h5 lo hi hw1 v157 k ⟨⟩

include hlo hhi in
theorem tripRun (v157 : BitVec 32) (Q : PUnit → sProp 𝕄) :
    iprop(slotAt c (Ring.sl 2 (i 0).val) a ∗ tabP c arg2 T ∗ memP c arg7 f7 ∗ memP c arg8 f8 ∗ (∃ f14, memP c ebM f14)
      ∗ eWP c XE (Ring.bk 64 (wLo lo + k.val)) ∗ cellP c cc0_scratch5 ∗ (∃ W, owes (c : Thread nD τ) 0 W)
      ∗ ((slotAt c (Ring.sl 2 (i 0).val) (tripStep (arg2.view.read (Elt F) T) (arg7.view.read (Elt F) f7) (arg8.view.read (Elt F) f8) ((eW (Ring.bk 64 (wLo lo + k.val))).view.read (Elt F) XE) arg0 (i 0).val (Ring.bk 64 (wLo lo + k.val)) a)
          ∗ tabP c arg2 T ∗ memP c arg7 f7 ∗ memP c arg8 f8 ∗ (∃ f14, memP c ebM f14)
          ∗ eWP c XE (Ring.bk 64 (wLo lo + k.val)) ∗ cellP c cc0_scratch5 ∗ (∃ W, owes (c : Thread nD τ) 0 W)) -∗ Q ⟨⟩))
      ⊢ wp frame (wpE (defs₀ (F := F)) 𝒱₀ (c : Thread nD τ) none) Set.univ
          (progT i arg2 harg2 arg3 harg3 arg4 harg4 arg5 harg5 arg6 harg6 arg7 harg7 arg8 harg8 arg0 v0 h5 lo hi hw1 k v157) Q := by
  unfold slotAt
  iintro ⟨⟨%f, %hf, Hs⟩, H2, H7, H8, ⟨%f14, H14⟩, He, Hc, ⟨%W, HW⟩, Hk⟩
  have hchk2 := chk2 hlo hhi i k
  have hchk3 := chk3 hlo hhi i k
  have hchk4 := chk4 hlo hhi i k
  have hchk5 := chk5 hlo hhi i k
  dsimp only [progT]
  unfold k0_t1_body
  sl_exec
  sl_step
  have hn := c_lt i
  have hw : (Ring.bk 64 (wLo lo + k.val)).val = wLo lo + k.val := Ring.bk_val (win_lt hlo hhi k)
  have hE : tripRun.sl.v290 c lo hi k XE = ((eW (Ring.bk 64 (wLo lo + k.val))).view.read (Elt F) XE) := by
    unfold tripRun.sl.v290 tripRun.sl.dma0
    exact View.readCov_full ebM.view (off' := fun _ => 0) inb_S256x4096_S256x4096_0_0 (fun _ => by simp) _ _
  have hr : tripRun.sl.r c i arg2 h5 T = word (arg2.view.read (Elt F) T) (4 * (i 0).val + 0) := load_word arg2 T (off18_eq i) (by omega) (k0_off18_inb i h5) _
  have hr_1 : tripRun.sl.r_1 c i arg2 h5 T = word (arg2.view.read (Elt F) T) (4 * (i 0).val + 1) := load_word arg2 T (off19_eq i) (by omega) (k0_off19_inb i h5) _
  have hr_2 : tripRun.sl.r_2 c i arg2 h5 T = word (arg2.view.read (Elt F) T) (4 * (i 0).val + 1) := load_word arg2 T (off22_eq i) (by omega) (k0_off22_inb i h5) _
  have hr_3 : tripRun.sl.r_3 c i arg2 h5 T = word (arg2.view.read (Elt F) T) (4 * (i 0).val + 2) := load_word arg2 T (off23_eq i) (by omega) (k0_off23_inb i h5) _
  have hr_4 : tripRun.sl.r_4 c i arg2 h5 T = word (arg2.view.read (Elt F) T) (4 * (i 0).val + 2) := load_word arg2 T (off26_eq i) (by omega) (k0_off26_inb i h5) _
  have hr_5 : tripRun.sl.r_5 c i arg2 h5 T = word (arg2.view.read (Elt F) T) (4 * (i 0).val + 3) := load_word arg2 T (off27_eq i) (by omega) (k0_off27_inb i h5) _
  have hr_6 : tripRun.sl.r_6 c i arg2 h5 T = word (arg2.view.read (Elt F) T) (4 * (i 0).val + 3) := load_word arg2 T (off30_eq i) (by omega) (k0_off30_inb i h5) _
  have hr_7 : tripRun.sl.r_7 c i arg2 h5 T = word (arg2.view.read (Elt F) T) (4 * (i 0).val + 4) := load_word arg2 T (off31_eq i) (by omega) (k0_off31_inb i h5) _
  have e0 : (rslot (Ring.sl 2 (i 0).val)).view.read (Elt F) (if hc : k0_cond6 lo hi k (tripRun.sl.r c i arg2 h5 T) (tripRun.sl.r_1 c i arg2 h5 T) = 1#1 then tripRun.sl.Hs_w1 c i arg2 arg7 arg8 arg0 h5 lo hi k T f7 f8 XE f hchk2 hc else f)
      = (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 0 a) := by
    refine if_read _ 0 ?_ hf fun hc => ?_
    · rw [hr, hr_1, hw]; exact cond6_iff hlo hhi k _ _
    · unfold tripRun.sl.Hs_w1
      rw [pay3_eq]
      exact emb_read _ 0 (Ring.bk 64 (wLo lo + k.val)) (off21_eq i) _ _ _ _ hf (off20_eq hlo hhi k) _ _ f7 f8 hE
  have e1 : (rslot (Ring.sl 2 (i 0).val)).view.read (Elt F) (if hc : k0_cond7 lo hi k (tripRun.sl.r_2 c i arg2 h5 T) (tripRun.sl.r_3 c i arg2 h5 T) = 1#1 then tripRun.sl.Hs_w2 c i arg2 arg7 arg8 arg0 h5 lo hi k T f7 f8 XE f hchk2 hchk3 hc else (if hc : k0_cond6 lo hi k (tripRun.sl.r c i arg2 h5 T) (tripRun.sl.r_1 c i arg2 h5 T) = 1#1 then tripRun.sl.Hs_w1 c i arg2 arg7 arg8 arg0 h5 lo hi k T f7 f8 XE f hchk2 hc else f))
      = (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 1 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 0 a)) := by
    refine if_read _ 1 ?_ e0 fun hc => ?_
    · rw [hr_2, hr_3, hw]; exact cond7_iff hlo hhi k _ _
    · unfold tripRun.sl.Hs_w2
      rw [pay4_eq]
      exact emb_read _ 1 (Ring.bk 64 (wLo lo + k.val)) (off25_eq i) _ _ _ _ e0 (off24_eq hlo hhi k) _ _ f7 f8 hE
  have e2 : (rslot (Ring.sl 2 (i 0).val)).view.read (Elt F) (if hc : k0_cond8 lo hi k (tripRun.sl.r_4 c i arg2 h5 T) (tripRun.sl.r_5 c i arg2 h5 T) = 1#1 then tripRun.sl.Hs_w3 c i arg2 arg7 arg8 arg0 h5 lo hi k T f7 f8 XE f hchk2 hchk3 hchk4 hc else (if hc : k0_cond7 lo hi k (tripRun.sl.r_2 c i arg2 h5 T) (tripRun.sl.r_3 c i arg2 h5 T) = 1#1 then tripRun.sl.Hs_w2 c i arg2 arg7 arg8 arg0 h5 lo hi k T f7 f8 XE f hchk2 hchk3 hc else (if hc : k0_cond6 lo hi k (tripRun.sl.r c i arg2 h5 T) (tripRun.sl.r_1 c i arg2 h5 T) = 1#1 then tripRun.sl.Hs_w1 c i arg2 arg7 arg8 arg0 h5 lo hi k T f7 f8 XE f hchk2 hc else f)))
      = (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 2 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 1 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 0 a))) := by
    refine if_read _ 2 ?_ e1 fun hc => ?_
    · rw [hr_4, hr_5, hw]; exact cond8_iff hlo hhi k _ _
    · unfold tripRun.sl.Hs_w3
      rw [pay5_eq]
      exact emb_read _ 2 (Ring.bk 64 (wLo lo + k.val)) (off29_eq i) _ _ _ _ e1 (off28_eq hlo hhi k) _ _ f7 f8 hE
  have e3 : (rslot (Ring.sl 2 (i 0).val)).view.read (Elt F) (if hc : k0_cond9 lo hi k (tripRun.sl.r_6 c i arg2 h5 T) (tripRun.sl.r_7 c i arg2 h5 T) = 1#1 then tripRun.sl.Hs_w4 c i arg2 arg7 arg8 arg0 h5 lo hi k T f7 f8 XE f hchk2 hchk3 hchk4 hchk5 hc else (if hc : k0_cond8 lo hi k (tripRun.sl.r_4 c i arg2 h5 T) (tripRun.sl.r_5 c i arg2 h5 T) = 1#1 then tripRun.sl.Hs_w3 c i arg2 arg7 arg8 arg0 h5 lo hi k T f7 f8 XE f hchk2 hchk3 hchk4 hc else (if hc : k0_cond7 lo hi k (tripRun.sl.r_2 c i arg2 h5 T) (tripRun.sl.r_3 c i arg2 h5 T) = 1#1 then tripRun.sl.Hs_w2 c i arg2 arg7 arg8 arg0 h5 lo hi k T f7 f8 XE f hchk2 hchk3 hc else (if hc : k0_cond6 lo hi k (tripRun.sl.r c i arg2 h5 T) (tripRun.sl.r_1 c i arg2 h5 T) = 1#1 then tripRun.sl.Hs_w1 c i arg2 arg7 arg8 arg0 h5 lo hi k T f7 f8 XE f hchk2 hc else f))))
      = (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 3 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 2 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 1 (rowStep (arg2.view.read (Elt F) T) (arg7.view.read (Elt F) f7) (arg8.view.read (Elt F) f8) ((eW (Ring.bk 64 (wLo lo + k.val))).view.read (Elt F) XE) arg0 (i 0).val (Ring.bk 64 (wLo lo + k.val)) 0 a)))) := by
    refine if_read _ 3 ?_ e2 fun hc => ?_
    · rw [hr_6, hr_7, hw]; exact cond9_iff hlo hhi k _ _
    · unfold tripRun.sl.Hs_w4
      rw [pay1_eq]
      exact emb_read _ 3 (Ring.bk 64 (wLo lo + k.val)) (off33_eq i) _ _ _ _ e2 (off32_eq hlo hhi k) _ _ f7 f8 hE
  iapply Hk
  isplitl [Hs]
  · iexists _
    isplitr
    · ipureintro; exact e3
    · iexact Hs
  isplitl [H2]; · iexact H2
  isplitl [H7]; · iexact H7
  isplitl [H8]; · iexact H8
  isplitl [H14]; · iexists _; iexact H14
  isplitl [He]; · iexact He
  isplitl [Hc]; · iexact Hc
  iexists _; iexact HW
end Trip
end Cert.Proof.Run
-- ==== Proof.Tail.lean ====
/-
  A chunk's last point: the windows of its own vocabulary rows, then the finished slot sent out.
-/
module

public import proofs.«01_k».proof.Proof.Trip

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

/-! ## The windows of a chunk -/

/-- The slot after the first `k` windows from `base` on. -/
def winSteps (tab : S81.Idx → BitVec 32) (ids : Vec F S64x1x256 .i32) (es : Vec F S64x1x256 .f32) (E : Fin 64 → Vec F S256x4096 .fp8e5m2) (arg0 : BitVec 32) (n base : ℕ)
    (a : Vec F S1024x4096 .f32) : ℕ → Vec F S1024x4096 .f32
  | 0 => a
  | k + 1 => tripStep tab ids es (E (Ring.bk 64 (base + k))) arg0 n (Ring.bk 64 (base + k)) (winSteps tab ids es E arg0 n base a k)
/-- The slot after all of chunk `n`'s windows. -/
def embSteps (tab : S81.Idx → BitVec 32) (ids : Vec F S64x1x256 .i32) (es : Vec F S64x1x256 .f32) (E : Fin 64 → Vec F S256x4096 .fp8e5m2) (n : ℕ)
    (a : Vec F S1024x4096 .f32) : Vec F S1024x4096 .f32 :=
  winSteps tab ids es E (BitVec.ofNat 32 n) n (wLo (word tab (4 * n))) a (wCount (word tab (4 * n)) (word tab (4 * n + 4)))

section Tail
variable (c : Dev nD) (i : grid0.Coords)
  (arg2 : Memref sig .tc .smem S81 .i32) (harg2 : arg2.IsWhole)
  (arg3 : Memref sig .tc .vmem S1024x1024 .fp8e5m2) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x4096 .fp8e4m3) (harg6 : arg6.IsWhole)
  (arg7 : Memref sig .tc .vmem S64x1x256 .i32) (harg7 : arg7.IsWhole)
  (arg8 : Memref sig .tc .vmem S64x1x256 .f32) (harg8 : arg8.IsWhole)
  (T : Buf (Elt F) (arg2.view.loc (c : Thread nD τ))) (f7 : Buf (Elt F) (arg7.view.loc (c : Thread nD τ))) (f8 : Buf (Elt F) (arg8.view.loc (c : Thread nD τ)))
  (XE : Buf (Elt F) (eM.view.loc (c : Thread nD τ)))
  (a : Vec F S1024x4096 .f32)

/-- Everything the windows' loop holds beside the slot. -/
abbrev loopRest : sProp 𝕄 :=
  iprop(tabP c arg2 T ∗ memP c arg7 f7 ∗ memP c arg8 f8 ∗ (∃ f14, memP c ebM f14)
      ∗ bigSep Finset.univ (eWP c XE) ∗ cellP c cc0_scratch5 ∗ (∃ W, owes (c : Thread nD τ) 0 W))

theorem loop1Run (arg0 v0 : BitVec 32) (h5 : k0_cond5 i = 1#1) (lo hi : BitVec 32) (hw1 : k0_chk1 i lo hi) (hlo : Small lo) (hhi : Small hi) (v157 : BitVec 32) (Q : PUnit → sProp 𝕄) :
    iprop((slotAt c (Ring.sl 2 (i 0).val) a ∗ loopRest c arg2 arg7 arg8 T f7 f8 XE)
      ∗ ((slotAt c (Ring.sl 2 (i 0).val) (winSteps (arg2.view.read (Elt F) T) (arg7.view.read (Elt F) f7) (arg8.view.read (Elt F) f8) (fun w => (eW w).view.read (Elt F) XE) arg0 (i 0).val (wLo lo) a (wCount lo hi)) ∗ loopRest c arg2 arg7 arg8 T f7 f8 XE) -∗ Q ⟨⟩))
      ⊢ wp frame (wpE (defs₀ (F := F)) 𝒱₀ (c : Thread nD τ) none) Set.univ
          (Scf.Loop.for (k0_t1_loop lo hi) (k0_t1_ok i lo hi hw1 h5) ⟨⟩ (k0_t1_body (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 arg0 v0 h5 lo hi hw1 v157)) Q := by
  have hn : Scf.trips (k0_t1_loop lo hi).lb (k0_t1_loop lo hi).ub (k0_t1_loop lo hi).st = wCount lo hi := trips1_eq hlo hhi
  have hstep : ∀ (k : Fin (k0_t1_loop lo hi).trips) (acc : PUnit),
      iprop(slotAt c (Ring.sl 2 (i 0).val) (winSteps (arg2.view.read (Elt F) T) (arg7.view.read (Elt F) f7) (arg8.view.read (Elt F) f8) (fun w => (eW w).view.read (Elt F) XE) arg0 (i 0).val (wLo lo) a k.val) ∗ loopRest c arg2 arg7 arg8 T f7 f8 XE)
      ⊢ wp frame (wpE (defs₀ (F := F)) 𝒱₀ (c : Thread nD τ) none) Set.univ (progT i arg2 harg2 arg3 harg3 arg4 harg4 arg5 harg5 arg6 harg6 arg7 harg7 arg8 harg8 arg0 v0 h5 lo hi hw1 k v157)
          (fun _ => iprop(slotAt c (Ring.sl 2 (i 0).val) (winSteps (arg2.view.read (Elt F) T) (arg7.view.read (Elt F) f7) (arg8.view.read (Elt F) f8) (fun w => (eW w).view.read (Elt F) XE) arg0 (i 0).val (wLo lo) a (k.val + 1)) ∗ loopRest c arg2 arg7 arg8 T f7 f8 XE)) := by
    intro k _
    have he : bigSep Finset.univ (eWP c XE) = iprop(eWP c XE (Ring.bk 64 (wLo lo + k.val)) ∗ bigSep (Finset.univ.erase (Ring.bk 64 (wLo lo + k.val))) (eWP c XE)) := bigSep_erase (Finset.mem_univ _)
    iintro ⟨Hs, H2, H7, H8, H14, He, Hc, HW⟩
    ihave He' := (entails_of_eq he) $$ He
    icases He' with ⟨He, Hes⟩
    iapply (tripRun (hlo := hlo) (hhi := hhi))
    isplitl [Hs]; · iexact Hs
    isplitl [H2]; · iexact H2
    isplitl [H7]; · iexact H7
    isplitl [H8]; · iexact H8
    isplitl [H14]; · iexact H14
    isplitl [He]; · iexact He
    isplitl [Hc]; · iexact Hc
    isplitl [HW]; · iexact HW
    iintro ⟨Hs, H2, H7, H8, H14, He, Hc, HW⟩
    isplitl [Hs]; · iexact Hs
    isplitl [H2]; · iexact H2
    isplitl [H7]; · iexact H7
    isplitl [H8]; · iexact H8
    isplitl [H14]; · iexact H14
    isplitl [He Hes]
    · iapply (entails_of_eq he.symm)
      isplitl [He]; · iexact He
      iexact Hes
    isplitl [Hc]; · iexact Hc
    iexact HW
  iintro ⟨H, Hk⟩
  iapply (Scf.wp_for frame (wpE (defs₀ (F := F)) 𝒱₀ (c : Thread nD τ) none) Set.univ _ _ _ (k0_t1_ok i lo hi hw1 h5) (⟨⟩ : PUnit) _ (fun k (_ : PUnit) => iprop(slotAt c (Ring.sl 2 (i 0).val) (winSteps (arg2.view.read (Elt F) T) (arg7.view.read (Elt F) f7) (arg8.view.read (Elt F) f8) (fun w => (eW w).view.read (Elt F) XE) arg0 (i 0).val (wLo lo) a k) ∗ loopRest c arg2 arg7 arg8 T f7 f8 XE)) hstep)
  isplitl [H]
  · iexact H
  · rw [hn]
    iintro %_ H
    iapply Hk
    iexact H

theorem loop2Run (arg0 v0 : BitVec 32) (h5 : k0_cond5 i = 1#1) (lo hi : BitVec 32) (hw1 : k0_chk1 i lo hi) (hlo : Small lo) (hhi : Small hi) (v181 : BitVec 32) (Q : PUnit → sProp 𝕄) :
    Q ⟨⟩ ⊢ wp frame (wpE (defs₀ (F := F)) 𝒱₀ (c : Thread nD τ) none) Set.univ
          (Scf.Loop.for (k0_t2_loop lo hi) (k0_t2_ok i lo hi hw1 h5) ⟨⟩ (k0_t2_body (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5 arg0 v0 h5 lo hi hw1 v181)) Q := by
  iintro H
  iapply (Scf.wp_for frame (wpE (defs₀ (F := F)) 𝒱₀ (c : Thread nD τ) none) Set.univ _ _ _ (k0_t2_ok i lo hi hw1 h5) (⟨⟩ : PUnit) _
    (fun k _ => Q ⟨⟩) (fun k _ => (Nat.not_lt_zero _ (Nat.lt_of_lt_of_eq k.isLt (trips2_eq hlo hhi))).elim))
  isplitl [H]
  · iexact H
  · iintro %_ H
    iexact H

/-- The body from the last conditional on. -/
abbrev progTail (arg0 v0 : BitVec 32) : Prog (TpuEff nD τ sig (Elt F) Λ₀ .tc) PUnit := do
  if k0_h5 : k0_cond5 i = 1#1 then do
    let ⟨v136, v140, k0_hw1, v157, v160, v174⟩ : Σ' (v136 : Elt F .i32) (v140 : Elt F .i32) (k0_hw1 : k0_chk1 i v136 v140) (v157 : BitVec 32) (v160 : BitVec 32), BitVec 1 ← k0_part5 i arg2 harg2 arg3 harg3 arg4 harg4 arg5 harg5 arg6 harg6 arg7 harg7 arg8 harg8 eM (Memref.isWhole_whole _) mgM (Memref.isWhole_whole _) outM (Memref.isWhole_whole _) accM (Memref.isWhole_whole _) lhsM (Memref.isWhole_whole _) ebM (Memref.isWhole_whole _) cc0_scratch3 cc0_scratch4 cc0_scratch5 arg0 k0_h5
    let v175 : BitVec 32 := Scalar.subi v160 1#32
    let v176 : BitVec 32 := Scalar.select v174 v175 v160
    let v177 : BitVec 32 := Scalar.subi v176 v157
    let v179 : BitVec 32 := Scalar.divsi v177 1#32
    let v180 : BitVec 32 := Scalar.muli v179 1#32
    let v181 : BitVec 32 := Scalar.addi v157 v180
    Scf.Loop.for (k0_t1_loop v136 v140) (k0_t1_ok i v136 v140 k0_hw1 k0_h5) ⟨⟩ (k0_t1_body i arg2 harg2 arg3 harg3 arg4 harg4 arg5 harg5 arg6 harg6 arg7 harg7 arg8 harg8 eM (Memref.isWhole_whole _) mgM (Memref.isWhole_whole _) outM (Memref.isWhole_whole _) accM (Memref.isWhole_whole _) lhsM (Memref.isWhole_whole _) ebM (Memref.isWhole_whole _) cc0_scratch3 cc0_scratch4 cc0_scratch5 arg0 v0 k0_h5 v136 v140 k0_hw1 v157)
    Scf.Loop.for (k0_t2_loop v136 v140) (k0_t2_ok i v136 v140 k0_hw1 k0_h5) ⟨⟩ (k0_t2_body i arg2 harg2 arg3 harg3 arg4 harg4 arg5 harg5 arg6 harg6 arg7 harg7 arg8 harg8 eM (Memref.isWhole_whole _) mgM (Memref.isWhole_whole _) outM (Memref.isWhole_whole _) accM (Memref.isWhole_whole _) lhsM (Memref.isWhole_whole _) ebM (Memref.isWhole_whole _) cc0_scratch3 cc0_scratch4 cc0_scratch5 arg0 v0 k0_h5 v136 v140 k0_hw1 v181)
    let v183 : Memref sig .tc .hbm S1024x4096 .f32 := outM.slice (Rect.unit (s := S20480x4096) (k0_off51 i) S1024x4096.size (k0_off51_inb i k0_h5)) (fun _ => rfl)
    let v184 : Memref sig .tc .vmem S1x1024x4096 .f32 := accM.slice (Rect.unit (s := S2x1024x4096) (k0_off52 i) S1x1024x4096.size (k0_off52_inb i k0_h5)) (fun _ => rfl)
    let v185 : Memref sig .tc .vmem S1024x4096 .f32 := v184.squeeze S1024x4096 squeezes_S1x1024x4096_S1024x4096
    Prog.lift (.enqueueDma v185 (.here v183) (.dma cc0_scratch4.sem) ((View.wordExact_bits rfl).reshape _ _) (View.wordExact_bits rfl) ⟨Or.inl rfl, trivial⟩)
    if k0_h14 : k0_cond14 i = 1#1 then do
      let v190 : Memref sig .tc .hbm S1024x4096 .f32 := outM.slice (Rect.unit (s := S20480x4096) (k0_off53 i) S1024x4096.size (k0_off53_inb i k0_h5 k0_h14)) (fun _ => rfl)
      let v191 : Memref sig .tc .vmem S1x1024x4096 .f32 := accM.slice (Rect.unit (s := S2x1024x4096) (k0_off54 i) S1x1024x4096.size (k0_off54_inb i k0_h5 k0_h14)) (fun _ => rfl)
      let v192 : Memref sig .tc .vmem S1024x4096 .f32 := v191.squeeze S1024x4096 squeezes_S1x1024x4096_S1024x4096
      Prog.lift (.waitDma2 cc0_scratch4.sem v192 v190 ((View.wordExact_bits rfl).reshape _ _) (View.wordExact_bits rfl))
      pure ⟨⟩
    else do
      pure ⟨⟩
    pure ⟨⟩
  else do
    pure ⟨⟩
  pure ⟨⟩

/-- Block `b` of the result held at `g`. -/
abbrev outP (b : Fin 20) (g : Buf (Elt F) ((outB b).view.loc (c : Thread nD τ))) : sProp 𝕄 := (outB b).view.loc (c : Thread nD τ) ↦[(outB b).view.set]{fullShare} g

/-- A slot's contents, landed in a block of the result held before at `g`. -/
abbrev outLanded (b : Fin 20) (g : Buf (Elt F) ((outB b).view.loc (c : Thread nD τ))) (s : Fin 2) (f : Buf (Elt F) ((rslot s).view.loc (c : Thread nD τ))) : sProp 𝕄 :=
  outP c b ((outB b).view.writes (Elt F) g [⟨Rect.whole S1024x4096, ReadAs.same.apply ((rslot s).view.read (Elt F) f)⟩])
/-- The result's block `b` on its way out of slot `s`, which holds `o`. -/
def outFl (b : Fin 20) (s : Fin 2) (o : Vec F S1024x4096 .f32) : sProp 𝕄 :=
  iprop(∃ g f, ⌜(rslot s).view.read (Elt F) f = o⌝ ∗ Transfers.Flight countersEmb (c : Thread nD τ) (SemLoc.dma cc0_scratch4.sem) () 524288 iprop(outLanded c b g s f ∗ slotP c s f))
/-- Block `b` of the result home, holding `o`. -/
def outAt (b : Fin 20) (o : Vec F S1024x4096 .f32) : sProp 𝕄 := iprop(∃ g, ⌜(outB b).view.read (Elt F) g = o⌝ ∗ outP c b g)

theorem tailMid (h5 : k0_cond5 i = 1#1) (hc : (i 0).val < 19) (hT : ∀ j, Small (arg2.view.read (Elt F) T j)) (v0 : BitVec 32) (Q : PUnit → sProp 𝕄)
    (g : Buf (Elt F) ((outB (Ring.bk 20 (i 0).val)).view.loc (c : Thread nD τ))) :
    iprop(slotAt c (Ring.sl 2 (i 0).val) a ∗ loopRest c arg2 arg7 arg8 T f7 f8 XE ∗ outP c (Ring.bk 20 (i 0).val) g ∗ cellP c cc0_scratch4
      ∗ ((outFl c (Ring.bk 20 (i 0).val) (Ring.sl 2 (i 0).val) (embSteps (arg2.view.read (Elt F) T) (arg7.view.read (Elt F) f7) (arg8.view.read (Elt F) f8) (fun w => (eW w).view.read (Elt F) XE) (i 0).val a) ∗ loopRest c arg2 arg7 arg8 T f7 f8 XE) -∗ Q ⟨⟩))
      ⊢ wp frame (wpE (defs₀ (F := F)) 𝒱₀ (c : Thread nD τ) none) Set.univ
          (progTail i arg2 harg2 arg3 harg3 arg4 harg4 arg5 harg5 arg6 harg6 arg7 harg7 arg8 harg8 (BitVec.ofNat 32 (i 0).val) v0) Q := by
  iintro ⟨Hs, ⟨H2, H7, H8, H14, He, Hc, HW⟩, Ho, Hco, Hk⟩
  unfold progTail
  have h14 : ¬ k0_cond14 i = 1#1 := fun h => absurd ((cond14_iff i).1 h) (by omega)
  sl_exec
  have hr : tailMid.sl.r c i arg2 T h5 = word (arg2.view.read (Elt F) T) (4 * (i 0).val) := load_word arg2 T (off15_eq i) (by have := c_lt i; omega) (k0_off15_inb i h5) _
  have hr1 : tailMid.sl.r_1 c i arg2 T h5 = word (arg2.view.read (Elt F) T) (4 * (i 0).val + 4) := load_word arg2 T (off16_eq i) (by have := c_lt i; omega) (k0_off16_inb i h5) _
  have hlo : Small (tailMid.sl.r c i arg2 T h5) := by rw [hr]; exact hT _
  have hhi : Small (tailMid.sl.r_1 c i arg2 T h5) := by rw [hr1]; exact hT _
  have hchk : k0_chk1 i (tailMid.sl.r c i arg2 T h5) (tailMid.sl.r_1 c i arg2 T h5) := chk1 hlo hhi i
  sl_exec
  rw [wp_bind]
  iapply (loop1Run (hlo := hlo) (hhi := hhi))
  isplitl [Hs H2 H7 H8 H14 He Hc HW]
  · isplitl [Hs]; · iexact Hs
    isplitl [H2]; · iexact H2
    isplitl [H7]; · iexact H7
    isplitl [H8]; · iexact H8
    isplitl [H14]; · iexact H14
    isplitl [He]; · iexact He
    isplitl [Hc]; · iexact Hc
    iexact HW
  iintro ⟨Hs, H2, H7, H8, H14, He, Hc, %W, HW⟩
  rw [wp_bind]
  iapply (loop2Run (hlo := hlo) (hhi := hhi))
  unfold slotAt
  icases Hs with ⟨%f, %hf, Hs⟩
  have hf' : (rslot (Ring.sl 2 (i 0).val)).view.read (Elt F) f = embSteps (arg2.view.read (Elt F) T) (arg7.view.read (Elt F) f7) (arg8.view.read (Elt F) f8) (fun w => (eW w).view.read (Elt F) XE) (i 0).val a := by
    rw [hf, hr, hr1]; rfl
  have hout : (outB (Ring.bk 20 (i 0).val)).view.read (Elt F) ((outB (Ring.bk 20 (i 0).val)).view.writes (Elt F) g [⟨Rect.whole S1024x4096, ReadAs.same.apply ((rslot (Ring.sl 2 (i 0).val)).view.read (Elt F) f)⟩]) = (embSteps (arg2.view.read (Elt F) T) (arg7.view.read (Elt F) f7) (arg8.view.read (Elt F) f8) (fun w => (eW w).view.read (Elt F) XE) (i 0).val a) := by
    refine (View.read_writes_whole _ _ _).trans ?_
    exact hf'
  sl_exec
  sl_step
  iapply Hk
  isplitl [Hco]
  · unfold outFl
    iexists g
    iexists f
    isplitr
    · ipureintro; exact hf'
    · iexact Hco
  isplitl [H2]; · iexact H2
  isplitl [H7]; · iexact H7
  isplitl [H8]; · iexact H8
  isplitl [H14]; · iexact H14
  isplitl [He]; · iexact He
  isplitl [Hc]; · iexact Hc
  iexists _; iexact HW

theorem tailEnd (h5 : k0_cond5 i = 1#1) (hc : (i 0).val = 19) (hT : ∀ j, Small (arg2.view.read (Elt F) T j)) (v0 : BitVec 32) (Q : PUnit → sProp 𝕄)
    (g : Buf (Elt F) ((outB (Ring.bk 20 (i 0).val)).view.loc (c : Thread nD τ))) :
    iprop(slotAt c (Ring.sl 2 (i 0).val) a ∗ loopRest c arg2 arg7 arg8 T f7 f8 XE ∗ outP c (Ring.bk 20 (i 0).val) g ∗ cellP c cc0_scratch4
      ∗ (((slotAny c (Ring.sl 2 (i 0).val) ∗ outAt c (Ring.bk 20 (i 0).val) (embSteps (arg2.view.read (Elt F) T) (arg7.view.read (Elt F) f7) (arg8.view.read (Elt F) f8) (fun w => (eW w).view.read (Elt F) XE) (i 0).val a) ∗ cellP c cc0_scratch4) ∗ loopRest c arg2 arg7 arg8 T f7 f8 XE) -∗ Q ⟨⟩))
      ⊢ wp frame (wpE (defs₀ (F := F)) 𝒱₀ (c : Thread nD τ) none) Set.univ
          (progTail i arg2 harg2 arg3 harg3 arg4 harg4 arg5 harg5 arg6 harg6 arg7 harg7 arg8 harg8 (BitVec.ofNat 32 (i 0).val) v0) Q := by
  iintro ⟨Hs, ⟨H2, H7, H8, H14, He, Hc, HW⟩, Ho, Hco, Hk⟩
  unfold progTail
  have h14 : k0_cond14 i = 1#1 := (cond14_iff i).2 hc
  sl_exec
  have hr : tailEnd.sl.r c i arg2 T h5 = word (arg2.view.read (Elt F) T) (4 * (i 0).val) := load_word arg2 T (off15_eq i) (by have := c_lt i; omega) (k0_off15_inb i h5) _
  have hr1 : tailEnd.sl.r_1 c i arg2 T h5 = word (arg2.view.read (Elt F) T) (4 * (i 0).val + 4) := load_word arg2 T (off16_eq i) (by have := c_lt i; omega) (k0_off16_inb i h5) _
  have hlo : Small (tailEnd.sl.r c i arg2 T h5) := by rw [hr]; exact hT _
  have hhi : Small (tailEnd.sl.r_1 c i arg2 T h5) := by rw [hr1]; exact hT _
  have hchk : k0_chk1 i (tailEnd.sl.r c i arg2 T h5) (tailEnd.sl.r_1 c i arg2 T h5) := chk1 hlo hhi i
  sl_exec
  rw [wp_bind]
  iapply (loop1Run (hlo := hlo) (hhi := hhi))
  isplitl [Hs H2 H7 H8 H14 He Hc HW]
  · isplitl [Hs]; · iexact Hs
    isplitl [H2]; · iexact H2
    isplitl [H7]; · iexact H7
    isplitl [H8]; · iexact H8
    isplitl [H14]; · iexact H14
    isplitl [He]; · iexact He
    isplitl [Hc]; · iexact Hc
    iexact HW
  iintro ⟨Hs, H2, H7, H8, H14, He, Hc, %W, HW⟩
  rw [wp_bind]
  iapply (loop2Run (hlo := hlo) (hhi := hhi))
  unfold slotAt
  icases Hs with ⟨%f, %hf, Hs⟩
  have hf' : (rslot (Ring.sl 2 (i 0).val)).view.read (Elt F) f = embSteps (arg2.view.read (Elt F) T) (arg7.view.read (Elt F) f7) (arg8.view.read (Elt F) f8) (fun w => (eW w).view.read (Elt F) XE) (i 0).val a := by
    rw [hf, hr, hr1]; rfl
  have hout : (outB (Ring.bk 20 (i 0).val)).view.read (Elt F) ((outB (Ring.bk 20 (i 0).val)).view.writes (Elt F) g [⟨Rect.whole S1024x4096, ReadAs.same.apply ((rslot (Ring.sl 2 (i 0).val)).view.read (Elt F) f)⟩]) = (embSteps (arg2.view.read (Elt F) T) (arg7.view.read (Elt F) f7) (arg8.view.read (Elt F) f8) (fun w => (eW w).view.read (Elt F) XE) (i 0).val a) := by
    refine (View.read_writes_whole _ _ _).trans ?_
    exact hf'
  sl_exec
  sl_step
  iapply Hk
  isplitl [Hs Ho Hco]
  · isplitl [Hs]; · unfold slotAny; iexists _; iexact Hs
    isplitl [Ho]
    · unfold outAt
      iexists _
      isplitr
      · ipureintro
        exact hout
      · iexact Ho
    iexact Hco
  isplitl [H2]; · iexact H2
  isplitl [H7]; · iexact H7
  isplitl [H8]; · iexact H8
  isplitl [H14]; · iexact H14
  isplitl [He]; · iexact He
  isplitl [Hc]; · iexact Hc
  iexists _; iexact HW

end Tail
end Cert.Proof.Run
-- ==== Proof.Prologue.lean ====
/-
  The first part of the body: the transfers a point starts and waits for, then the three loads behind `lhs`.

  Chunk `c`'s block of the main gradient arrives in slot `c % 2` while chunk `c - 1` is computed; a finished slot goes
  out while the next chunk is computed. One lemma per kind of point: what it takes and what it hands on.
-/
module

public import proofs.«01_k».proof.Proof.Tail

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

section Pieces
variable (c : Dev nD) (XA : Buf (Elt F) (mgM.view.loc (c : Thread nD τ)))

/-- Block `b` of the main gradient, home. -/
abbrev homeP (b : Fin 20) : sProp 𝕄 := (mgB b).view.loc (c : Thread nD τ) ↦[(mgB b).view.set]{fullShare} XA
/-- Its numbers. -/
abbrev mgBlk (b : Fin 20) : Vec F S1024x4096 .f32 := (mgB b).view.read (Elt F) XA
/-- Block `b` on its way into slot `s`. -/
def mgFl (b : Fin 20) (s : Fin 2) : sProp 𝕄 :=
  iprop(∃ f, Transfers.Flight countersEmb (c : Thread nD τ) (SemLoc.dma cc0_scratch3.sem) () 524288
    iprop(slotP c s ((rslot s).view.writes (Elt F) f [⟨Rect.whole S1024x4096, ReadAs.same.apply ((mgB b).view.read (Elt F) XA)⟩]) ∗ homeP c XA b))

theorem landed (b : Fin 20) (s : Fin 2) (f : Buf (Elt F) ((rslot s).view.loc (c : Thread nD τ))) :
    (rslot s).view.read (Elt F) ((rslot s).view.writes (Elt F) f [⟨Rect.whole S1024x4096, ReadAs.same.apply ((mgB b).view.read (Elt F) XA)⟩]) = mgBlk c XA b :=
  View.read_writes_whole _ _ _
theorem landedOut (b : Fin 20) (s : Fin 2) (g : Buf (Elt F) ((outB b).view.loc (c : Thread nD τ))) {f : Buf (Elt F) ((rslot s).view.loc (c : Thread nD τ))} {o : Vec F S1024x4096 .f32}
    (hf : (rslot s).view.read (Elt F) f = o) :
    (outB b).view.read (Elt F) ((outB b).view.writes (Elt F) g [⟨Rect.whole S1024x4096, ReadAs.same.apply ((rslot s).view.read (Elt F) f)⟩]) = o :=
  (View.read_writes_whole _ _ _).trans hf
end Pieces

section Prologue
variable (c : Dev nD) (i : grid0.Coords)
  (arg2 : Memref sig .tc .smem S81 .i32) (harg2 : arg2.IsWhole)
  (arg3 : Memref sig .tc .vmem S1024x1024 .fp8e5m2) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x4096 .fp8e4m3) (harg6 : arg6.IsWhole)
  (arg7 : Memref sig .tc .vmem S64x1x256 .i32) (harg7 : arg7.IsWhole)
  (arg8 : Memref sig .tc .vmem S64x1x256 .f32) (harg8 : arg8.IsWhole)
  (f3 : Buf (Elt F) (arg3.view.loc (c : Thread nD τ))) (f4 : Buf (Elt F) (arg4.view.loc (c : Thread nD τ))) (f5 : Buf (Elt F) (arg5.view.loc (c : Thread nD τ)))
  (XA : Buf (Elt F) (mgM.view.loc (c : Thread nD τ)))

abbrev prog6 :=
  k0_part6 (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5

/-- What the first part yields: the point's coordinates, its slot, and the scaled gradient. -/
abbrev res6 : Σ' (arg0 : BitVec 32) (arg1 : BitVec 32) (v0 : BitVec 32), FVec F S1024x1024 .bf16 :=
  ⟨BitVec.ofNat 32 (i 0).val, BitVec.ofNat 32 (i 1).val, Scalar.remsi (BitVec.ofNat 32 (i 0).val) 2#32,
    k0_pay9 (arg4.view.read (Elt F) f4) (arg5.view.read (Elt F) f5) (arg3.view.read (Elt F) f3)⟩
theorem pro2 (hk : 2 ≤ (i 1).val) (Q : (Σ' (arg0 : BitVec 32) (arg1 : BitVec 32) (v0 : BitVec 32), FVec F S1024x1024 .bf16) → sProp 𝕄) :
    iprop((emp) ∗ (memP c arg3 f3 ∗ memP c arg4 f4 ∗ memP c arg5 f5) ∗ (∃ W, owes (c : Thread nD τ) 0 W)
      ∗ (((emp) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  iintro ⟨Hemp, ⟨H3, H4, H5⟩, ⟨%W, HW⟩, Hk⟩
  have hc1 : ¬ Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := fun h => by have := (cond1_iff i).1 h; omega
  have hc2 : ¬ k0_cond2 i = 1#1 := fun h => by have := (cond2_iff i).1 h; omega
  have hc3 : ¬ k0_cond3 i = 1#1 := fun h => by have := (cond3_iff i).1 h; omega
  have hc4 : ¬ k0_cond4 i = 1#1 := fun h => by have := (cond4_iff i).1 h; omega
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro2.sl.v0
  iapply Hk
  isplitr [H3 H4 H5 HW]
  · iexact Hemp
  isplitr [HW]
  · isplitl [H3]; · iexact H3
    isplitl [H4]; · iexact H4
    iexact H5
  iexists _; iexact HW

theorem pro1last (hk : (i 1).val = 1) (hc : (i 0).val = 19) (o : Vec F S1024x4096 .f32) (Q : (Σ' (arg0 : BitVec 32) (arg1 : BitVec 32) (v0 : BitVec 32), FVec F S1024x1024 .bf16) → sProp 𝕄) :
    iprop((outFl c (Ring.bk 20 ((i 0).val - 1)) (Ring.sl 2 ((i 0).val + 1)) o) ∗ (memP c arg3 f3 ∗ memP c arg4 f4 ∗ memP c arg5 f5) ∗ (∃ W, owes (c : Thread nD τ) 0 W)
      ∗ (((outAt c (Ring.bk 20 ((i 0).val - 1)) o ∗ cellP c cc0_scratch4 ∗ slotAny c (Ring.sl 2 ((i 0).val + 1))) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  unfold slotAny
  unfold outAt
  unfold outFl
  iintro ⟨⟨%g, %f, %hf, Ho⟩, ⟨H3, H4, H5⟩, ⟨%W, HW⟩, Hk⟩
  have hc1 : ¬ Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := fun h => by have := (cond1_iff i).1 h; omega
  have hc2 : ¬ k0_cond2 i = 1#1 := fun h => by have := (cond2_iff i).1 h; omega
  have hc3 : k0_cond3 i = 1#1 := (cond3_iff i).2 (by omega)
  have hc4 : ¬ k0_cond4 i = 1#1 := fun h => by have := (cond4_iff i).1 h; omega
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro1last.sl.v0
  have hL := landedOut c (Ring.bk 20 ((i 0).val - 1)) (Ring.sl 2 ((i 0).val + 1)) g hf
  iapply Hk
  isplitr [H3 H4 H5 HW]
  · isplitl [Ho_dst]
    · iexists _; isplitr [Ho_dst]
      · ipureintro; exact hL
      · iexact Ho_dst
    isplitl [Ho]; · iexact Ho
    iexists _; iexact Ho_src
  isplitr [HW]
  · isplitl [H3]; · iexact H3
    isplitl [H4]; · iexact H4
    iexact H5
  iexists _; iexact HW

theorem pro1mid (hk : (i 1).val = 1) (hc : 0 < (i 0).val) (hc' : (i 0).val + 1 < 20) (o : Vec F S1024x4096 .f32) (Q : (Σ' (arg0 : BitVec 32) (arg1 : BitVec 32) (v0 : BitVec 32), FVec F S1024x1024 .bf16) → sProp 𝕄) :
    iprop((outFl c (Ring.bk 20 ((i 0).val - 1)) (Ring.sl 2 ((i 0).val + 1)) o ∗ homeP c XA (Ring.bk 20 ((i 0).val + 1)) ∗ cellP c cc0_scratch3) ∗ (memP c arg3 f3 ∗ memP c arg4 f4 ∗ memP c arg5 f5) ∗ (∃ W, owes (c : Thread nD τ) 0 W)
      ∗ (((outAt c (Ring.bk 20 ((i 0).val - 1)) o ∗ cellP c cc0_scratch4 ∗ mgFl c XA (Ring.bk 20 ((i 0).val + 1)) (Ring.sl 2 ((i 0).val + 1))) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  unfold outAt
  unfold outFl
  unfold mgFl
  iintro ⟨⟨⟨%g, %f, %hf, Ho⟩, Hm, Hcm⟩, ⟨H3, H4, H5⟩, ⟨%W, HW⟩, Hk⟩
  have hc1 : ¬ Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := fun h => by have := (cond1_iff i).1 h; omega
  have hc2 : ¬ k0_cond2 i = 1#1 := fun h => by have := (cond2_iff i).1 h; omega
  have hc3 : k0_cond3 i = 1#1 := (cond3_iff i).2 (by omega)
  have hc4 : k0_cond4 i = 1#1 := (cond4_iff i).2 (by omega)
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro1mid.sl.v0
  have hL := landedOut c (Ring.bk 20 ((i 0).val - 1)) (Ring.sl 2 ((i 0).val + 1)) g hf
  unfold pro1mid.sl.dma0
  iapply Hk
  isplitr [H3 H4 H5 HW]
  · isplitl [Ho_dst]
    · iexists _; isplitr [Ho_dst]
      · ipureintro; exact hL
      · iexact Ho_dst
    isplitl [Ho]; · iexact Ho
    iexists _; iexact Hcm
  isplitr [HW]
  · isplitl [H3]; · iexact H3
    isplitl [H4]; · iexact H4
    iexact H5
  iexists _; iexact HW

theorem pro1first (hk : (i 1).val = 1) (hc : (i 0).val = 0) (Q : (Σ' (arg0 : BitVec 32) (arg1 : BitVec 32) (v0 : BitVec 32), FVec F S1024x1024 .bf16) → sProp 𝕄) :
    iprop((slotAny c (Ring.sl 2 ((i 0).val + 1)) ∗ homeP c XA (Ring.bk 20 ((i 0).val + 1)) ∗ cellP c cc0_scratch3) ∗ (memP c arg3 f3 ∗ memP c arg4 f4 ∗ memP c arg5 f5) ∗ (∃ W, owes (c : Thread nD τ) 0 W)
      ∗ (((mgFl c XA (Ring.bk 20 ((i 0).val + 1)) (Ring.sl 2 ((i 0).val + 1))) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  unfold slotAny
  unfold mgFl
  iintro ⟨⟨⟨%fs, Hs⟩, Hm, Hcm⟩, ⟨H3, H4, H5⟩, ⟨%W, HW⟩, Hk⟩
  have hc1 : ¬ Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := fun h => by have := (cond1_iff i).1 h; omega
  have hc2 : ¬ k0_cond2 i = 1#1 := fun h => by have := (cond2_iff i).1 h; omega
  have hc3 : ¬ k0_cond3 i = 1#1 := fun h => by have := (cond3_iff i).1 h; omega
  have hc4 : k0_cond4 i = 1#1 := (cond4_iff i).2 (by omega)
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro1first.sl.v0
  unfold pro1first.sl.dma0
  iapply Hk
  isplitr [H3 H4 H5 HW]
  · iexists _; iexact Hcm
  isplitr [HW]
  · isplitl [H3]; · iexact H3
    isplitl [H4]; · iexact H4
    iexact H5
  iexists _; iexact HW

theorem pro0 (hk : (i 1).val = 0) (hc : 0 < (i 0).val) (Q : (Σ' (arg0 : BitVec 32) (arg1 : BitVec 32) (v0 : BitVec 32), FVec F S1024x1024 .bf16) → sProp 𝕄) :
    iprop((mgFl c XA (Ring.bk 20 (i 0).val) (Ring.sl 2 (i 0).val)) ∗ (memP c arg3 f3 ∗ memP c arg4 f4 ∗ memP c arg5 f5) ∗ (∃ W, owes (c : Thread nD τ) 0 W)
      ∗ (((slotAt c (Ring.sl 2 (i 0).val) (mgBlk c XA (Ring.bk 20 (i 0).val)) ∗ homeP c XA (Ring.bk 20 (i 0).val) ∗ cellP c cc0_scratch3) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  unfold slotAt
  unfold mgFl
  iintro ⟨⟨%f, Hm⟩, ⟨H3, H4, H5⟩, ⟨%W, HW⟩, Hk⟩
  have hc1 : ¬ Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := fun h => by have := (cond1_iff i).1 h; omega
  have hc2 : k0_cond2 i = 1#1 := (cond2_iff i).2 (by omega)
  have hc3 : ¬ k0_cond3 i = 1#1 := fun h => by have := (cond3_iff i).1 h; omega
  have hc4 : ¬ k0_cond4 i = 1#1 := fun h => by have := (cond4_iff i).1 h; omega
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro0.sl.v0
  iapply Hk
  isplitr [H3 H4 H5 HW]
  · isplitl [Hm_dst]
    · iexists _; isplitr [Hm_dst]
      · ipureintro; exact landed c XA _ _ f
      · iexact Hm_dst
    isplitl [Hm_src]; · iexact Hm_src
    iexact Hm
  isplitr [HW]
  · isplitl [H3]; · iexact H3
    isplitl [H4]; · iexact H4
    iexact H5
  iexists _; iexact HW

theorem pro00 (hk : (i 1).val = 0) (hc : (i 0).val = 0) (Q : (Σ' (arg0 : BitVec 32) (arg1 : BitVec 32) (v0 : BitVec 32), FVec F S1024x1024 .bf16) → sProp 𝕄) :
    iprop((slotAny c (Ring.sl 2 (i 0).val) ∗ homeP c XA (Ring.bk 20 (i 0).val) ∗ cellP c cc0_scratch3) ∗ (memP c arg3 f3 ∗ memP c arg4 f4 ∗ memP c arg5 f5) ∗ (∃ W, owes (c : Thread nD τ) 0 W)
      ∗ (((slotAt c (Ring.sl 2 (i 0).val) (mgBlk c XA (Ring.bk 20 (i 0).val)) ∗ homeP c XA (Ring.bk 20 (i 0).val) ∗ cellP c cc0_scratch3) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  unfold slotAny
  unfold slotAt
  iintro ⟨⟨⟨%fs, Hs⟩, Hm, Hcm⟩, ⟨H3, H4, H5⟩, ⟨%W, HW⟩, Hk⟩
  have hc1 : Scalar.cmpi .ne (Scalar.extui (Scalar.andi (Scalar.cmpi .eq (BitVec.ofNat 32 (i 1).val) 0#32) (Scalar.cmpi .eq (BitVec.ofNat 32 (i 0).val) 0#32)) : BitVec 32) 0#32 = 1#1 := (cond1_iff i).2 (by omega)
  have hc2 : k0_cond2 i = 1#1 := (cond2_iff i).2 (by omega)
  have hc3 : ¬ k0_cond3 i = 1#1 := fun h => by have := (cond3_iff i).1 h; omega
  have hc4 : ¬ k0_cond4 i = 1#1 := fun h => by have := (cond4_iff i).1 h; omega
  have h00 : (i 1).val = 0 ∧ (i 0).val = 0 := ⟨hk, hc⟩
  rw [sl_zero i h00, bk_zero i h00]
  have e3 := View.readAt_full (Val := Elt F) arg3.view f3 inb_S1024x1024_S1024x1024_0_0
  have e4 := View.readAt_full (Val := Elt F) arg4.view f4 inb_S1x1x1024_S1x1x1024_0_0_0
  have e5 := View.readAt_full (Val := Elt F) arg5.view f5 inb_S1x1024_S1x1024_0_0
  dsimp only [prog6]
  rw [k0_part6_eq_skeleton]
  unfold k0_part6_skel
  sl_exec
  sl_step
  unfold pro00.sl.v0
  unfold pro00.sl.dma0
  iapply Hk
  isplitr [H3 H4 H5 HW]
  · isplitl [Hs]
    · iexists _; isplitr [Hs]
      · ipureintro; exact landed c XA (0 : Fin 20) (0 : Fin 2) fs
      · iexact Hs
    isplitl [Hm]; · iexact Hm
    iexact Hcm
  isplitr [HW]
  · isplitl [H3]; · iexact H3
    isplitl [H4]; · iexact H4
    iexact H5
  iexists _; iexact HW

end Prologue
end Cert.Proof.Run
-- ==== Proof.Body.lean ====
/-
  One grid point, whole: what is held before point `(n, k)` and what is held after it.

  `St n k` is the state before point `(n, k)`; `Rest n k` is its part besides chunk `n`'s own slot, once the point's
  transfers have been started and waited for. `A n k` is chunk `n`'s sum after `k` steps, `OUT b` block `b` of the
  result.
-/
module

public import proofs.«01_k».proof.Proof.Prologue

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

section State
variable (c : Dev nD) (XA : Buf (Elt F) (mgM.view.loc (c : Thread nD τ))) (A : ℕ → ℕ → Vec F S1024x4096 .f32) (OUT : Fin 20 → Vec F S1024x4096 .f32)

/-- The blocks of the main gradient in `s`, home. -/
abbrev mgHome (s : Finset (Fin 20)) : sProp 𝕄 := bigSep s (homeP c XA)
/-- Block `b` of the result when the first `D` blocks are written. -/
def outE (D : ℕ) (b : Fin 20) : sProp 𝕄 := if b.val < D then outAt c b (OUT b) else iprop(∃ g, outP c b g)
abbrev outS (D : ℕ) (s : Finset (Fin 20)) : sProp 𝕄 := bigSep s (outE c OUT D)

def Rest (n k : ℕ) : sProp 𝕄 :=
  if k = 0 then
    if n = 0 then iprop(mgHome c XA Finset.univ ∗ cellP c cc0_scratch3 ∗ outS c OUT 0 Finset.univ ∗ cellP c cc0_scratch4 ∗ slotAny c (Ring.sl 2 (n + 1)))
    else iprop(mgHome c XA Finset.univ ∗ cellP c cc0_scratch3 ∗ outS c OUT (n - 1) (Finset.univ.erase (Ring.bk 20 (n - 1))) ∗ outFl c (Ring.bk 20 (n - 1)) (Ring.sl 2 (n + 1)) (OUT (Ring.bk 20 (n - 1))))
  else if n + 1 < 20 then iprop(outS c OUT n Finset.univ ∗ cellP c cc0_scratch4 ∗ mgHome c XA (Finset.univ.erase (Ring.bk 20 (n + 1))) ∗ mgFl c XA (Ring.bk 20 (n + 1)) (Ring.sl 2 (n + 1)))
  else iprop(outS c OUT n Finset.univ ∗ cellP c cc0_scratch4 ∗ mgHome c XA Finset.univ ∗ cellP c cc0_scratch3 ∗ slotAny c (Ring.sl 2 (n + 1)))

/-- Nothing in flight, the first `n` blocks written. -/
def Idle (n : ℕ) : sProp 𝕄 :=
  iprop(mgHome c XA Finset.univ ∗ cellP c cc0_scratch3 ∗ outS c OUT n Finset.univ ∗ cellP c cc0_scratch4 ∗ slotAny c (Ring.sl 2 n) ∗ slotAny c (Ring.sl 2 (n + 1)))

/-- Between chunks `n - 1` and `n`: the one block on its way out, the other on its way in. -/
def Between (n : ℕ) : sProp 𝕄 :=
  iprop(mgHome c XA (Finset.univ.erase (Ring.bk 20 n)) ∗ mgFl c XA (Ring.bk 20 n) (Ring.sl 2 n)
      ∗ outS c OUT (n - 1) (Finset.univ.erase (Ring.bk 20 (n - 1))) ∗ outFl c (Ring.bk 20 (n - 1)) (Ring.sl 2 (n + 1)) (OUT (Ring.bk 20 (n - 1))))

def St (n k : ℕ) : sProp 𝕄 :=
  if k = 0 then (if n = 0 ∨ n = 20 then Idle c XA OUT n else Between c XA OUT n)
  else iprop(slotAt c (Ring.sl 2 n) (A n k) ∗ Rest c XA OUT n (k - 1))

theorem Rest_00 : Rest c XA OUT 0 0 = iprop(mgHome c XA Finset.univ ∗ cellP c cc0_scratch3 ∗ outS c OUT 0 Finset.univ ∗ cellP c cc0_scratch4 ∗ slotAny c (Ring.sl 2 (0 + 1))) := by
  unfold Rest; rw [if_pos rfl, if_pos rfl]
theorem Rest_0 {n : ℕ} (h : n ≠ 0) : Rest c XA OUT n 0 = iprop(mgHome c XA Finset.univ ∗ cellP c cc0_scratch3 ∗ outS c OUT (n - 1) (Finset.univ.erase (Ring.bk 20 (n - 1))) ∗ outFl c (Ring.bk 20 (n - 1)) (Ring.sl 2 (n + 1)) (OUT (Ring.bk 20 (n - 1)))) := by
  unfold Rest; rw [if_pos rfl, if_neg h]
theorem Rest_mid {n k : ℕ} (hk : k ≠ 0) (h : n + 1 < 20) : Rest c XA OUT n k = iprop(outS c OUT n Finset.univ ∗ cellP c cc0_scratch4 ∗ mgHome c XA (Finset.univ.erase (Ring.bk 20 (n + 1))) ∗ mgFl c XA (Ring.bk 20 (n + 1)) (Ring.sl 2 (n + 1))) := by
  unfold Rest; rw [if_neg hk, if_pos h]
theorem Rest_last {n k : ℕ} (hk : k ≠ 0) (h : ¬ n + 1 < 20) : Rest c XA OUT n k = iprop(outS c OUT n Finset.univ ∗ cellP c cc0_scratch4 ∗ mgHome c XA Finset.univ ∗ cellP c cc0_scratch3 ∗ slotAny c (Ring.sl 2 (n + 1))) := by
  unfold Rest; rw [if_neg hk, if_neg h]

theorem mgHome_eq (b : Fin 20) : mgHome c XA Finset.univ = iprop(homeP c XA b ∗ mgHome c XA (Finset.univ.erase b)) := bigSep_erase (Finset.mem_univ b)
theorem outS_eq (D : ℕ) (b : Fin 20) : outS c OUT D Finset.univ = iprop(outE c OUT D b ∗ outS c OUT D (Finset.univ.erase b)) := bigSep_erase (Finset.mem_univ b)
theorem outE_lt {D : ℕ} {b : Fin 20} (h : b.val < D) : outE c OUT D b = outAt c b (OUT b) := if_pos h
theorem outE_ge {D : ℕ} {b : Fin 20} (h : ¬ b.val < D) : outE c OUT D b = iprop(∃ g, outP c b g) := if_neg h
/-- Off block `n`, the first `n` and the first `n + 1` are the same. -/
theorem outS_succ {n : ℕ} (h : n < 20) : outS c OUT n (Finset.univ.erase (Ring.bk 20 n)) = outS c OUT (n + 1) (Finset.univ.erase (Ring.bk 20 n)) := by
  refine bigSep_congr fun b hb => ?_
  have hne : b ≠ Ring.bk 20 n := Finset.ne_of_mem_erase hb
  have hv : b.val ≠ n := fun e => hne (Fin.ext (by rw [e]; exact (Nat.mod_eq_of_lt h).symm))
  unfold outE
  by_cases hb : b.val < n
  · rw [if_pos hb, if_pos (by omega)]
  · rw [if_neg hb, if_neg (by omega)]
/-- A block more is written. -/
theorem outS_more {n : ℕ} (h : n < 20) : iprop(outAt c (Ring.bk 20 n) (OUT (Ring.bk 20 n)) ∗ outS c OUT n (Finset.univ.erase (Ring.bk 20 n))) = outS c OUT (n + 1) Finset.univ := by
  rw [outS_eq c OUT (n + 1) (Ring.bk 20 n), outE_lt c OUT (by show n % 20 < n + 1; omega), outS_succ c OUT h]
/-- Block `n` is still to be written. -/
theorem outS_next {n : ℕ} (h : n < 20) : outS c OUT n Finset.univ = iprop((∃ g, outP c (Ring.bk 20 n) g) ∗ outS c OUT n (Finset.univ.erase (Ring.bk 20 n))) := by
  rw [outS_eq c OUT n (Ring.bk 20 n), outE_ge c OUT (by show ¬ n % 20 < n; omega)]
theorem sl_add2 (n : ℕ) : Ring.sl 2 (n + 1 + 1) = Ring.sl 2 n := Fin.ext (Nat.add_mod_right n 2)
end State

section Body
variable (c : Dev nD) (i : grid0.Coords)
  (arg2 : Memref sig .tc .smem S81 .i32) (harg2 : arg2.IsWhole)
  (arg3 : Memref sig .tc .vmem S1024x1024 .fp8e5m2) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x4096 .fp8e4m3) (harg6 : arg6.IsWhole)
  (arg7 : Memref sig .tc .vmem S64x1x256 .i32) (harg7 : arg7.IsWhole)
  (arg8 : Memref sig .tc .vmem S64x1x256 .f32) (harg8 : arg8.IsWhole)
  (f3 : Buf (Elt F) (arg3.view.loc (c : Thread nD τ))) (f4 : Buf (Elt F) (arg4.view.loc (c : Thread nD τ))) (f5 : Buf (Elt F) (arg5.view.loc (c : Thread nD τ)))
  (f6 : Buf (Elt F) (arg6.view.loc (c : Thread nD τ))) (T : Buf (Elt F) (arg2.view.loc (c : Thread nD τ)))
  (f7 : Buf (Elt F) (arg7.view.loc (c : Thread nD τ))) (f8 : Buf (Elt F) (arg8.view.loc (c : Thread nD τ))) (XE : Buf (Elt F) (eM.view.loc (c : Thread nD τ)))
  (XA : Buf (Elt F) (mgM.view.loc (c : Thread nD τ))) (A : ℕ → ℕ → Vec F S1024x4096 .f32) (OUT : Fin 20 → Vec F S1024x4096 .f32)

/-- The first part takes the state before a point to the chunk's slot and the rest. -/
theorem proRun (hA0 : A (i 0).val 0 = mgBlk c XA (Ring.bk 20 (i 0).val)) (Q : (Σ' (arg0 : BitVec 32) (arg1 : BitVec 32) (v0 : BitVec 32), FVec F S1024x1024 .bf16) → sProp 𝕄) :
    iprop(St c XA A OUT (i 0).val (i 1).val ∗ (memP c arg3 f3 ∗ memP c arg4 f4 ∗ memP c arg5 f5) ∗ (∃ W, owes (c : Thread nD τ) 0 W)
      ∗ (((slotAt c (Ring.sl 2 (i 0).val) (A (i 0).val (i 1).val) ∗ Rest c XA OUT (i 0).val (i 1).val) ∗ (memP c arg3 f3 ∗ memP c arg4 f4 ∗ memP c arg5 f5) ∗ (∃ W, owes (c : Thread nD τ) 0 W)) -∗ Q (res6 c i arg3 arg4 arg5 f3 f4 f5)))
      ⊢ wp frame (wpE (defs₀ (F := F)) 𝒱₀ (c : Thread nD τ) none) Set.univ (prog6 i arg2 harg2 arg3 harg3 arg4 harg4 arg5 harg5 arg6 harg6 arg7 harg7 arg8 harg8) Q := by
  have hn : (i 0).val < 20 := (i 0).isLt
  by_cases hk2 : 2 ≤ (i 1).val
  · have e : Rest c XA OUT (i 0).val ((i 1).val - 1) = Rest c XA OUT (i 0).val (i 1).val := by
      by_cases h : (i 0).val + 1 < 20
      · rw [Rest_mid c XA OUT (by omega) h, Rest_mid c XA OUT (by omega) h]
      · rw [Rest_last c XA OUT (by omega) h, Rest_last c XA OUT (by omega) h]
    unfold St
    rw [if_neg (by omega), e]
    iintro ⟨Hst, HW3, HO, Hk⟩
    iapply (pro2 (f3 := f3) (f4 := f4) (f5 := f5) (hk := hk2))
    isplitr; · iempintro
    isplitl [HW3]; · iexact HW3
    isplitl [HO]; · iexact HO
    iintro ⟨-, HW3, HO⟩
    iapply Hk
    isplitl [Hst]; · iexact Hst
    isplitl [HW3]; · iexact HW3
    iexact HO
  by_cases hk1 : (i 1).val = 1
  · unfold St
    rw [if_neg (by omega), hk1]
    by_cases h0 : (i 0).val = 0
    · rw [Rest_mid c XA OUT (n := (i 0).val) (k := 1) (by omega) (by omega)]
      have e0 : Rest c XA OUT (i 0).val (1 - 1) = iprop((homeP c XA (Ring.bk 20 ((i 0).val + 1)) ∗ mgHome c XA (Finset.univ.erase (Ring.bk 20 ((i 0).val + 1)))) ∗ cellP c cc0_scratch3 ∗ outS c OUT (i 0).val Finset.univ ∗ cellP c cc0_scratch4 ∗ slotAny c (Ring.sl 2 ((i 0).val + 1))) := by
        rw [← mgHome_eq, h0]; exact Rest_00 c XA OUT
      rw [e0]
      iintro ⟨⟨Hs, ⟨Hb, Hm⟩, Hcm, Ho, Hco, Ha⟩, HW3, HO, Hk⟩
      iapply (pro1first (f3 := f3) (f4 := f4) (f5 := f5) (hk := hk1) (hc := h0))
      isplitl [Ha Hb Hcm]
      · isplitl [Ha]; · iexact Ha
        isplitl [Hb]; · iexact Hb
        iexact Hcm
      isplitl [HW3]; · iexact HW3
      isplitl [HO]; · iexact HO
      iintro ⟨Hf, HW3, HO⟩
      iapply Hk
      isplitl [Hs Ho Hco Hm Hf]
      · isplitl [Hs]; · iexact Hs
        isplitl [Ho]; · iexact Ho
        isplitl [Hco]; · iexact Hco
        isplitl [Hm]; · iexact Hm
        iexact Hf
      isplitl [HW3]; · iexact HW3
      iexact HO
    · have ep : (i 0).val - 1 + 1 = (i 0).val := by omega
      have eo := outS_more c OUT (n := (i 0).val - 1) (by omega)
      rw [ep] at eo
      rw [Rest_0 c XA OUT (n := (i 0).val) h0]
      by_cases h : (i 0).val + 1 < 20
      · rw [Rest_mid c XA OUT (k := 1) (by omega) h, mgHome_eq c XA (Ring.bk 20 ((i 0).val + 1))]
        iintro ⟨⟨Hs, ⟨Hb, Hm⟩, Hcm, Ho, Hf⟩, HW3, HO, Hk⟩
        iapply (pro1mid (f3 := f3) (f4 := f4) (f5 := f5) (hk := hk1) (hc := by omega) (hc' := h))
        isplitl [Hf Hb Hcm]
        · isplitl [Hf]; · iexact Hf
          isplitl [Hb]; · iexact Hb
          iexact Hcm
        isplitl [HW3]; · iexact HW3
        isplitl [HO]; · iexact HO
        iintro ⟨⟨Ha, Hco, Hf⟩, HW3, HO⟩
        iapply Hk
        isplitl [Hs Ho Ha Hco Hm Hf]
        · isplitl [Hs]; · iexact Hs
          isplitl [Ho Ha]
          · iapply (entails_of_eq eo)
            isplitl [Ha]; · iexact Ha
            iexact Ho
          isplitl [Hco]; · iexact Hco
          isplitl [Hm]; · iexact Hm
          iexact Hf
        isplitl [HW3]; · iexact HW3
        iexact HO
      · rw [Rest_last c XA OUT (k := 1) (by omega) h]
        iintro ⟨⟨Hs, Hm, Hcm, Ho, Hf⟩, HW3, HO, Hk⟩
        iapply (pro1last (f3 := f3) (f4 := f4) (f5 := f5) (hk := hk1) (hc := by omega))
        isplitl [Hf]; · iexact Hf
        isplitl [HW3]; · iexact HW3
        isplitl [HO]; · iexact HO
        iintro ⟨⟨Ha, Hco, Hx⟩, HW3, HO⟩
        iapply Hk
        isplitl [Hs Ho Ha Hco Hm Hcm Hx]
        · isplitl [Hs]; · iexact Hs
          isplitl [Ho Ha]
          · iapply (entails_of_eq eo)
            isplitl [Ha]; · iexact Ha
            iexact Ho
          isplitl [Hco]; · iexact Hco
          isplitl [Hm]; · iexact Hm
          isplitl [Hcm]; · iexact Hcm
          iexact Hx
        isplitl [HW3]; · iexact HW3
        iexact HO
  have hk0 : (i 1).val = 0 := by omega
  unfold St
  rw [if_pos hk0, hk0, hA0]
  by_cases h0 : (i 0).val = 0
  · have er : Rest c XA OUT (i 0).val 0 = iprop((homeP c XA (Ring.bk 20 (i 0).val) ∗ mgHome c XA (Finset.univ.erase (Ring.bk 20 (i 0).val))) ∗ cellP c cc0_scratch3 ∗ outS c OUT (i 0).val Finset.univ ∗ cellP c cc0_scratch4 ∗ slotAny c (Ring.sl 2 ((i 0).val + 1))) := by
      rw [← mgHome_eq, h0]; exact Rest_00 c XA OUT
    rw [if_pos (Or.inl h0), er]
    unfold Idle
    rw [mgHome_eq c XA (Ring.bk 20 (i 0).val)]
    iintro ⟨⟨⟨Hb, Hm⟩, Hcm, Ho, Hco, Ha, Hx⟩, HW3, HO, Hk⟩
    iapply (pro00 (f3 := f3) (f4 := f4) (f5 := f5) (hk := hk0) (hc := h0))
    isplitl [Ha Hb Hcm]
    · isplitl [Ha]; · iexact Ha
      isplitl [Hb]; · iexact Hb
      iexact Hcm
    isplitl [HW3]; · iexact HW3
    isplitl [HO]; · iexact HO
    iintro ⟨⟨Ha, Hb, Hcm⟩, HW3, HO⟩
    iapply Hk
    isplitl [Ha Hb Hm Hcm Ho Hco Hx]
    · isplitl [Ha]; · iexact Ha
      isplitl [Hb Hm]
      · isplitl [Hb]; · iexact Hb
        iexact Hm
      isplitl [Hcm]; · iexact Hcm
      isplitl [Ho]; · iexact Ho
      isplitl [Hco]; · iexact Hco
      iexact Hx
    isplitl [HW3]; · iexact HW3
    iexact HO
  · rw [if_neg (by omega), Rest_0 c XA OUT h0, mgHome_eq c XA (Ring.bk 20 (i 0).val)]
    unfold Between
    iintro ⟨⟨Hm, Hf, Ho, Hx⟩, HW3, HO, Hk⟩
    iapply (pro0 (f3 := f3) (f4 := f4) (f5 := f5) (hk := hk0) (hc := by omega))
    isplitl [Hf]; · iexact Hf
    isplitl [HW3]; · iexact HW3
    isplitl [HO]; · iexact HO
    iintro ⟨⟨Ha, Hb, Hcm⟩, HW3, HO⟩
    iapply Hk
    isplitl [Ha Hb Hm Hcm Ho Hx]
    · isplitl [Ha]; · iexact Ha
      isplitl [Hb Hm]
      · isplitl [Hb]; · iexact Hb
        iexact Hm
      isplitl [Hcm]; · iexact Hcm
      isplitl [Ho]; · iexact Ho
      iexact Hx
    isplitl [HW3]; · iexact HW3
    iexact HO

/-- The state after point `(n, k)`. -/
def StNext (n k : ℕ) : sProp 𝕄 := if k = 15 then St c XA A OUT (n + 1) 0 else St c XA A OUT n (k + 1)

/-- The last part takes the chunk's slot, one step further, and the rest to the state after the point. -/
theorem tailRun (hT : ∀ j, Small (arg2.view.read (Elt F) T j)) (v0 : BitVec 32)
    (hO : (i 1).val = 15 → OUT (Ring.bk 20 (i 0).val) = embSteps (arg2.view.read (Elt F) T) (arg7.view.read (Elt F) f7) (arg8.view.read (Elt F) f8) (fun w => (eW w).view.read (Elt F) XE) (i 0).val (A (i 0).val ((i 1).val + 1)))
    (Q : PUnit → sProp 𝕄) :
    iprop((slotAt c (Ring.sl 2 (i 0).val) (A (i 0).val ((i 1).val + 1)) ∗ Rest c XA OUT (i 0).val (i 1).val) ∗ loopRest c arg2 arg7 arg8 T f7 f8 XE
      ∗ ((StNext c XA A OUT (i 0).val (i 1).val ∗ loopRest c arg2 arg7 arg8 T f7 f8 XE) -∗ Q ⟨⟩))
      ⊢ wp frame (wpE (defs₀ (F := F)) 𝒱₀ (c : Thread nD τ) none) Set.univ (progTail i arg2 harg2 arg3 harg3 arg4 harg4 arg5 harg5 arg6 harg6 arg7 harg7 arg8 harg8 (BitVec.ofNat 32 (i 0).val) v0) Q := by
  have hn : (i 0).val < 20 := (i 0).isLt
  by_cases hk : (i 1).val = 15
  · have h5 : k0_cond5 i = 1#1 := (cond5_iff i).2 hk
    have hO' := hO hk
    rw [hk] at hO' ⊢
    unfold StNext St
    rw [if_pos rfl, if_pos rfl]
    by_cases h : (i 0).val + 1 < 20
    · rw [Rest_mid c XA OUT (by omega) h, if_neg (by omega), outS_next c OUT hn]
      unfold Between
      rw [Nat.add_sub_cancel, sl_add2]
      iintro ⟨⟨Hs, ⟨⟨%g, Hg⟩, Ho⟩, Hco, Hm, Hf⟩, HL, Hk⟩
      iapply (tailMid (h5 := h5) (hc := by omega) (hT := hT))
      isplitl [Hs]; · iexact Hs
      isplitl [HL]; · iexact HL
      isplitl [Hg]; · iexact Hg
      isplitl [Hco]; · iexact Hco
      rw [← hO']
      iintro ⟨Hx, HL⟩
      iapply Hk
      isplitl [Hm Hf Ho Hx]
      · isplitl [Hm]; · iexact Hm
        isplitl [Hf]; · iexact Hf
        isplitl [Ho]; · iexact Ho
        iexact Hx
      iexact HL
    · have h19 : (i 0).val = 19 := by omega
      rw [Rest_last c XA OUT (by omega) h, if_pos (Or.inr (by omega)), outS_next c OUT hn]
      unfold Idle
      rw [sl_add2, ← outS_more c OUT hn]
      iintro ⟨⟨Hs, ⟨⟨%g, Hg⟩, Ho⟩, Hco, Hm, Hcm, Hx⟩, HL, Hk⟩
      iapply (tailEnd (h5 := h5) (hc := h19) (hT := hT))
      isplitl [Hs]; · iexact Hs
      isplitl [HL]; · iexact HL
      isplitl [Hg]; · iexact Hg
      isplitl [Hco]; · iexact Hco
      rw [← hO']
      iintro ⟨⟨Ha, Hb, Hco⟩, HL⟩
      iapply Hk
      isplitl [Hm Hcm Ho Hb Hco Hx Ha]
      · isplitl [Hm]; · iexact Hm
        isplitl [Hcm]; · iexact Hcm
        isplitl [Ho Hb]
        · isplitl [Hb]; · iexact Hb
          iexact Ho
        isplitl [Hco]; · iexact Hco
        isplitl [Hx]; · iexact Hx
        iexact Ha
      iexact HL
  · have h5 : ¬ k0_cond5 i = 1#1 := fun h => hk ((cond5_iff i).1 h)
    unfold StNext St
    rw [if_neg hk, if_neg (by omega), Nat.add_sub_cancel]
    iintro ⟨Hst, HL, Hk⟩
    unfold progTail
    rw [dif_neg h5]
    sl_step
    iapply Hk
    isplitl [Hst]; · iexact Hst
    iexact HL

/-- One point. -/
theorem bodyRun (hT : ∀ j, Small (arg2.view.read (Elt F) T j))
    (hA0 : A (i 0).val 0 = mgBlk c XA (Ring.bk 20 (i 0).val))
    (hA1 : A (i 0).val ((i 1).val + 1) = stepA (k0_pay10 (k0_pay9 (arg4.view.read (Elt F) f4) (arg5.view.read (Elt F) f5) (arg3.view.read (Elt F) f3))) (arg6.view.read (Elt F) f6) (A (i 0).val (i 1).val))
    (hO : (i 1).val = 15 → OUT (Ring.bk 20 (i 0).val) = embSteps (arg2.view.read (Elt F) T) (arg7.view.read (Elt F) f7) (arg8.view.read (Elt F) f8) (fun w => (eW w).view.read (Elt F) XE) (i 0).val (A (i 0).val ((i 1).val + 1)))
    (Q : PUnit → sProp 𝕄) :
    iprop(St c XA A OUT (i 0).val (i 1).val ∗ (memP c arg3 f3 ∗ memP c arg4 f4 ∗ memP c arg5 f5) ∗ memP c arg6 f6 ∗ (∃ f13, memP c lhsM f13) ∗ loopRest c arg2 arg7 arg8 T f7 f8 XE
      ∗ ((StNext c XA A OUT (i 0).val (i 1).val ∗ (memP c arg3 f3 ∗ memP c arg4 f4 ∗ memP c arg5 f5) ∗ memP c arg6 f6 ∗ (∃ f13, memP c lhsM f13) ∗ loopRest c arg2 arg7 arg8 T f7 f8 XE) -∗ Q ⟨⟩))
      ⊢ wp frame (wpE (defs₀ (F := F)) 𝒱₀ (c : Thread nD τ) none) Set.univ (cc0_tied_dw (F := F) i arg2 harg2 arg3 harg3 arg4 harg4 arg5 harg5 arg6 harg6 arg7 harg7 arg8 harg8 eM (Memref.isWhole_whole _) mgM (Memref.isWhole_whole _) outM (Memref.isWhole_whole _)
    accM (Memref.isWhole_whole _) lhsM (Memref.isWhole_whole _) ebM (Memref.isWhole_whole _) cc0_scratch3 cc0_scratch4 cc0_scratch5) Q := by
  have hs : cc0_tied_dw (F := F) i arg2 harg2 arg3 harg3 arg4 harg4 arg5 harg5 arg6 harg6 arg7 harg7 arg8 harg8 eM (Memref.isWhole_whole _) mgM (Memref.isWhole_whole _) outM (Memref.isWhole_whole _)
      accM (Memref.isWhole_whole _) lhsM (Memref.isWhole_whole _) ebM (Memref.isWhole_whole _) cc0_scratch3 cc0_scratch4 cc0_scratch5
    = (do
        let ⟨arg0, _, v0, v31⟩ ← prog6 i arg2 harg2 arg3 harg3 arg4 harg4 arg5 harg5 arg6 harg6 arg7 harg7 arg8 harg8
        let ⟨v61, v62, v64⟩ ← prog7 i arg2 harg2 arg3 harg3 arg4 harg4 arg5 harg5 arg6 harg6 arg7 harg7 arg8 harg8 v0 v31
        let v97 ← prog8 i arg2 harg2 arg3 harg3 arg4 harg4 arg5 harg5 arg6 harg6 arg7 harg7 arg8 harg8 v0 v61 v62 v64
        prog9 i arg2 harg2 arg3 harg3 arg4 harg4 arg5 harg5 arg6 harg6 arg7 harg7 arg8 harg8 v0 v97
        progTail i arg2 harg2 arg3 harg3 arg4 harg4 arg5 harg5 arg6 harg6 arg7 harg7 arg8 harg8 arg0 v0) := rfl
  rw [hs, wp_bind]
  iintro ⟨Hst, HW3, H6, H13, ⟨H2, H7, H8, H14, He, Hc, HO⟩, Hk⟩
  iapply (proRun (f3 := f3) (f4 := f4) (f5 := f5) (hA0 := hA0))
  isplitl [Hst]; · iexact Hst
  isplitl [HW3]; · iexact HW3
  isplitl [HO]; · iexact HO
  iintro ⟨⟨Hs, Hr⟩, HW3, HO⟩
  dsimp only
  iapply (midRun (β := PUnit) (K := fun _ : PUnit.{1} => progTail i arg2 harg2 arg3 harg3 arg4 harg4 arg5 harg5 arg6 harg6 arg7 harg7 arg8 harg8 (BitVec.ofNat 32 (i 0).val) (Scalar.remsi (BitVec.ofNat 32 (i 0).val) 2#32)))
  isplitl [Hs]; · iexact Hs
  isplitl [H6]; · iexact H6
  isplitl [H13]; · iexact H13
  rw [← hA1]
  iintro ⟨Hs, H6, H13⟩
  iapply (tailRun (hT := hT) (hO := hO))
  isplitl [Hs Hr]
  · isplitl [Hs]; · iexact Hs
    iexact Hr
  isplitl [H2 H7 H8 H14 He Hc HO]
  · isplitl [H2]; · iexact H2
    isplitl [H7]; · iexact H7
    isplitl [H8]; · iexact H8
    isplitl [H14]; · iexact H14
    isplitl [He]; · iexact He
    isplitl [Hc]; · iexact Hc
    iexact HO
  iintro ⟨Hst, HL⟩
  iapply Hk
  isplitl [Hst]; · iexact Hst
  isplitl [HW3]; · iexact HW3
  isplitl [H6]; · iexact H6
  isplitl [H13]; · iexact H13
  iexact HL

end Body
end Cert.Proof.Run
-- ==== Proof.Split.lean ====
/-
  The arrays whole are their blocks: the accumulator is its two slots, the incoming gradient and the result their
  twenty row blocks, the embedding gradient its sixty-four windows.
-/
module

public import proofs.«01_k».proof.Proof.Body

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

section Sets

abbrev SlotS (s : Fin 2) : Finset S2x1024x4096.Idx := (Rect.unit (s := S2x1024x4096) (slotOff s) S1x1024x4096.size (slotOff_inb s)).set
abbrev BlkS (b : Fin 20) : Finset S20480x4096.Idx := (Rect.unit (s := S20480x4096) (blkOff b) S1024x4096.size (blkOff_inb b)).set
abbrev WinS (w : Fin 64) : Finset S16384x4096.Idx := (Rect.unit (s := S16384x4096) (winOff w) S256x4096.size (winOff_inb w)).set

theorem rslot_set (s : Fin 2) : (rslot s).view.set = SlotS s := (View.set_reshape _ _).trans (View.set_slice_whole _ _)
theorem mgB_set (b : Fin 20) : (mgB b).view.set = BlkS b := View.set_slice_whole _ _
theorem outB_set (b : Fin 20) : (outB b).view.set = BlkS b := View.set_slice_whole _ _
theorem eW_set (w : Fin 64) : (eW w).view.set = WinS w := View.set_slice_whole _ _

theorem mem_SlotS (s : Fin 2) (y : S2x1024x4096.Idx) : y ∈ SlotS s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem mem_BlkS (b : Fin 20) (y : S20480x4096.Idx) : y ∈ BlkS b ↔ (y 0).val / 1024 = b.val := by
  rw [Rect.mem_set_unit]
  have h1 : (y 1).val < 4096 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 4096; omega
theorem mem_WinS (w : Fin 64) (y : S16384x4096.Idx) : y ∈ WinS w ↔ (y 0).val / 256 = w.val := by
  rw [Rect.mem_set_unit]
  have h1 : (y 1).val < 4096 := (y 1).isLt
  constructor
  · intro H; have a0 : 256 * w.val ≤ (y 0).val ∧ (y 0).val < 256 * w.val + 256 := H 0; omega
  · intro H i; fin_cases i
    · show 256 * w.val ≤ (y 0).val ∧ (y 0).val < 256 * w.val + 256; omega
    · show 0 ≤ (y 1).val ∧ (y 1).val < 0 + 4096; omega

theorem SlotS_disjoint : ∀ b b' : Fin 2, b ≠ b' → Disjoint (SlotS b) (SlotS b') := by
  intro b b' hne; rw [Finset.disjoint_left]; intro y hy hy'; rw [mem_SlotS] at hy hy'; exact hne (Fin.ext (hy.symm.trans hy'))
theorem SlotS_cover : (Finset.univ : Finset (Fin 2)).biUnion SlotS = Finset.univ := by
  ext y; simp only [Finset.mem_biUnion, Finset.mem_univ, true_and, iff_true]; exact ⟨⟨(y 0).val, (y 0).isLt⟩, by rw [mem_SlotS]⟩
theorem BlkS_disjoint : ∀ b b' : Fin 20, b ≠ b' → Disjoint (BlkS b) (BlkS b') := by
  intro b b' hne; rw [Finset.disjoint_left]; intro y hy hy'; rw [mem_BlkS] at hy hy'; exact hne (Fin.ext (hy.symm.trans hy'))
theorem BlkS_cover : (Finset.univ : Finset (Fin 20)).biUnion BlkS = Finset.univ := by
  ext y; simp only [Finset.mem_biUnion, Finset.mem_univ, true_and, iff_true]; exact ⟨⟨(y 0).val / 1024, by have : (y 0).val < 20480 := (y 0).isLt; omega⟩, by rw [mem_BlkS]⟩
theorem WinS_disjoint : ∀ b b' : Fin 64, b ≠ b' → Disjoint (WinS b) (WinS b') := by
  intro b b' hne; rw [Finset.disjoint_left]; intro y hy hy'; rw [mem_WinS] at hy hy'; exact hne (Fin.ext (hy.symm.trans hy'))
theorem WinS_cover : (Finset.univ : Finset (Fin 64)).biUnion WinS = Finset.univ := by
  ext y; simp only [Finset.mem_biUnion, Finset.mem_univ, true_and, iff_true]; exact ⟨⟨(y 0).val / 256, by have : (y 0).val < 16384 := (y 0).isLt; omega⟩, by rw [mem_WinS]⟩
end Sets

section Arrays
variable (c : Dev nD)

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The incoming gradient whole is its blocks home. -/
theorem mg_eq (X : Buf (Elt F) ((c : Thread nD τ).loc main_arg7)) : (((c : Thread nD τ).loc main_arg7) ↦{fullShare} X : sProp 𝕄) = mgHome c X Finset.univ := by
  rw [Ring.pointsTo_blocks (ℓ := (c : Thread nD τ).loc main_arg7) BlkS BlkS_disjoint BlkS_cover]
  exact bigSep_congr fun b _ => by rw [← mgB_set]; rfl
/-- The embedding gradient whole is its windows. -/
theorem e_eq (X : Buf (Elt F) ((c : Thread nD τ).loc main_arg4)) : (((c : Thread nD τ).loc main_arg4) ↦{fullShare} X : sProp 𝕄) = bigSep Finset.univ (eWP c X) := by
  rw [Ring.pointsTo_blocks (ℓ := (c : Thread nD τ).loc main_arg4) WinS WinS_disjoint WinS_cover]
  exact bigSep_congr fun b _ => by rw [← eW_set]; rfl
/-- The result whole is its blocks. -/
theorem out_eq (X : Buf (Elt F) ((c : Thread nD τ).loc main_v18)) : (((c : Thread nD τ).loc main_v18) ↦{fullShare} X : sProp 𝕄) = bigSep Finset.univ fun b => outP c b X := by
  rw [Ring.pointsTo_blocks (ℓ := (c : Thread nD τ).loc main_v18) BlkS BlkS_disjoint BlkS_cover]
  exact bigSep_congr fun b _ => by rw [← outB_set]; rfl

/-- The result assembled from its blocks. -/
def glue (OUT : Fin 20 → Vec F S1024x4096 .f32) : S20480x4096.Idx → Elt F .f32 := fun y =>
  OUT ⟨(y 0).val / 1024, by have : (y 0).val < 20480 := (y 0).isLt; omega⟩ (ix2 (⟨(y 0).val % 1024, Nat.mod_lt _ (by norm_num)⟩ : Fin 1024) (⟨(y 1).val, (y 1).isLt⟩ : Fin 4096))

theorem outB_emb (b : Fin 20) (x : S1024x4096.Idx) (h) : (outB b).view.emb x = (ix2 (⟨1024 * b.val + (x 0).val, h⟩ : Fin 20480) (⟨(x 1).val, (x 1).isLt⟩ : Fin 4096) : S20480x4096.Idx) := by
  funext a; apply Fin.ext; fin_cases a
  · show 1024 * b.val + 1 * (x 0).val = 1024 * b.val + (x 0).val; omega
  · show 0 + 1 * (x 1).val = (x 1).val; omega

/-- A block written holds what the glued result holds there. -/
theorem outAt_glue (OUT : Fin 20 → Vec F S1024x4096 .f32) (b : Fin 20) : outAt c b (OUT b) ⊢ (outP c b (glue OUT) : sProp 𝕄) := by
  have key : ∀ g, (outB b).view.read (Elt F) g = OUT b → (outP c b g : sProp 𝕄) = outP c b (glue OUT) := fun g hg => pointsTo_congr fun y hy => by
    rw [View.set, Finset.mem_map] at hy
    obtain ⟨x, -, rfl⟩ := hy
    have e := congrFun hg x
    rw [View.read_apply] at e
    have hx : (x 0).val < 1024 := (x 0).isLt
    have hb := b.isLt
    have hl : 1024 * b.val + (x 0).val < 20480 := by omega
    refine Eq.trans e (Eq.symm ?_)
    refine (congrArg (glue OUT) (outB_emb b x hl)).trans ?_
    have e1 : (1024 * b.val + (x 0).val) / 1024 = b.val := by omega
    have e2 : (1024 * b.val + (x 0).val) % 1024 = (x 0).val := by omega
    refine congr (congrArg OUT (Fin.ext e1)) ?_
    funext a; apply Fin.ext; fin_cases a
    · exact e2
    · rfl
  unfold outAt
  iintro ⟨%g, %hg, H⟩
  iapply (entails_of_eq (key g hg)); iexact H
theorem outP_any (b : Fin 20) (X : Buf (Elt F) ((outB b).view.loc (c : Thread nD τ))) : (outP c b X : sProp 𝕄) ⊢ iprop(∃ g, outP c b g) := by
  iintro H; iexists X; iexact H
theorem out_join (OUT : Fin 20 → Vec F S1024x4096 .f32) : outS c OUT 20 Finset.univ ⊢ (((c : Thread nD τ).loc main_v18) ↦{fullShare} glue OUT : sProp 𝕄) := by
  rw [out_eq]
  exact bigSep_mono fun b _ => by
    rw [outE_lt c OUT b.isLt]; exact outAt_glue c OUT b
theorem out_split (OUT : Fin 20 → Vec F S1024x4096 .f32) (X : Buf (Elt F) ((c : Thread nD τ).loc main_v18)) : (((c : Thread nD τ).loc main_v18) ↦{fullShare} X : sProp 𝕄) ⊢ outS c OUT 0 Finset.univ := by
  rw [out_eq]
  exact bigSep_mono fun b _ => by
    rw [outE_ge c OUT (Nat.not_lt_zero _)]; exact outP_any c b X

theorem slotP_eq (s : Fin 2) (f) : slotP c s f = (((c : Thread nD τ).loc cc0_scratch0) ↦[SlotS s]{fullShare} f : sProp 𝕄) :=
  congrArg (fun S => (_ ↦[S]{fullShare} f : sProp 𝕄)) (rslot_set s)
/-- The accumulator whole is its two slots, and back. -/
theorem acc_split :
    iprop(∃ f : Buf (Elt F) ((c : Thread nD τ).loc cc0_scratch0), ((c : Thread nD τ).loc cc0_scratch0) ↦{fullShare} f)
      ⊢ (iprop(slotAny c 0 ∗ slotAny c 1) : sProp 𝕄) := by
  unfold slotAny
  iintro ⟨%f, H⟩
  ihave H2 := (entails_of_eq ((Ring.pointsTo_blocks (Ix := Unit) (Name := ℕ) (U := UU nD τ) (Lvl := ℕ) (q := fullShare) (ℓ := (c : Thread nD τ).loc cc0_scratch0) SlotS SlotS_disjoint SlotS_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem acc_join :
    iprop(slotAny c 0 ∗ slotAny c 1)
      ⊢ (iprop(∃ f : Buf (Elt F) ((c : Thread nD τ).loc cc0_scratch0), ((c : Thread nD τ).loc cc0_scratch0) ↦{fullShare} f) : sProp 𝕄) := by
  unfold slotAny
  iintro ⟨⟨%f0, H0⟩, ⟨%f1, H1⟩⟩
  iapply (Ring.pointsTo_blocks_join_exists (ℓ := (c : Thread nD τ).loc cc0_scratch0) SlotS SlotS_disjoint SlotS_cover f0)
  irw [bigSep_fin2]
  isplitl [H0]
  · iexists f0; iapply (entails_of_eq (slotP_eq c 0 f0)); iexact H0
  · iexists f1; iapply (entails_of_eq (slotP_eq c 1 f1)); iexact H1

/-- The kernel's own cells. -/
abbrev osem : Fin 3 → SemLoc sig := fun j => (![.dma cc0_scratch3.sem, .dma cc0_scratch4.sem, .dma cc0_scratch5.sem] : Fin 3 → SemLoc sig) j
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(cellP c cc0_scratch3 ∗ cellP c cc0_scratch4 ∗ cellP c cc0_scratch5) := by
  rw [Pipeline.ownSems0_eq_of_list c osem [0, 1, 2] (by decide) (by decide)]; rfl
end Arrays
end Cert.Proof.Run
-- ==== Proof.Launch.lean ====
/-
  The launch: the body's state carried through the 320 grid points, from the arrays as the host lines leave them to
  the result's array block by block.
-/
module

public import proofs.«01_k».proof.Proof.Split

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine
open Idealize.ShloMosaic.Pipeline (Dat Cfg Window BodyObligation)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## What the region finds -/

/-- A device's buffers when the region is entered: after the host lines. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c b

theorem hostOps0_fresh : (hostOps0 : List (HloOp τ sig (Elt F))).Forall fun op => op.fresh = ∅ := by
  simp only [List.Forall]; repeat' constructor

/-- The prefetched table: row-block boundaries, as the host lines leave them. -/
def adm : (p : Fin 1) → (pcfgs (F := F) p).Adm := fun _ => ⟨fun k => V m 0 (pre0.ref k), trivial⟩
abbrev cfgM : Pipeline.Cfg sig Λ₀ := cfg0 (adm m 0)

/-- Window `w`'s block at point `t`, read off its array. -/
def iblk (c : Dev nD) (w : Fin 6) (t : Fin grid0.N) : (((cfgM m).win w).xblock (grid0.coords t)).Idx → Elt F ((cfgM m).win w).elt :=
  (((cfgM m).win w).blk t).view.read (Elt F) (V m c (Pipeline.arrRef spec0 w))

abbrev tab (c : Dev nD) : S81.Idx → BitVec 32 := (Memref.whole main_v13).view.read (Elt F) (V m c main_v13)
abbrev gB (c : Dev nD) (t : Fin grid0.N) : Vec F S1024x1024 .fp8e5m2 := iblk m c 0 t
abbrev gsB (c : Dev nD) (t : Fin grid0.N) : Vec F S1x1x1024 .f32 := iblk m c 1 t
abbrev xsB (c : Dev nD) (t : Fin grid0.N) : Vec F S1x1024 .f32 := iblk m c 2 t
abbrev xB (c : Dev nD) (t : Fin grid0.N) : Vec F S1024x4096 .fp8e4m3 := iblk m c 3 t
abbrev idB (c : Dev nD) (t : Fin grid0.N) : Vec F S64x1x256 .i32 := iblk m c 4 t
abbrev esB (c : Dev nD) (t : Fin grid0.N) : Vec F S64x1x256 .f32 := iblk m c 5 t

/-- Chunk `n`'s sum after `k` row blocks. -/
def acc (c : Dev nD) (n : ℕ) : ℕ → Vec F S1024x4096 .f32
  | 0 => mgBlk c (V m c main_arg7) (Ring.bk 20 n)
  | k + 1 => if h : 16 * n + k < 320 then
      let t : Fin grid0.N := ⟨16 * n + k, by rw [N_0]; exact h⟩
      stepA (k0_pay10 (k0_pay9 (gsB m c t) (xsB m c t) (gB m c t))) (xB m c t) (acc c n k)
    else acc c n k

/-- Block `b` of the result. -/
def outBlk (c : Dev nD) (b : Fin 20) : Vec F S1024x4096 .f32 :=
  let t : Fin grid0.N := ⟨16 * b.val + 15, by rw [N_0]; have := b.isLt; omega⟩
  embSteps (tab m c) (idB m c t) (esB m c t) (fun w => (eW w).view.read (Elt F) (V m c main_arg4)) b.val (acc m c b.val 16)

theorem acc_zero (c : Dev nD) (n : ℕ) : acc m c n 0 = mgBlk c (V m c main_arg7) (Ring.bk 20 n) := rfl
theorem acc_step (c : Dev nD) (t : Fin grid0.N) {n k : ℕ} (h : t.val = 16 * n + k) :
    acc m c n (k + 1) = stepA (k0_pay10 (k0_pay9 (gsB m c t) (xsB m c t) (gB m c t))) (xB m c t) (acc m c n k) := by
  have ht : t.val < 320 := by exact N_0 ▸ t.isLt
  obtain ⟨v, hv⟩ := t
  dsimp only at h
  subst h
  rw [acc, dif_pos (N_0 ▸ hv)]

theorem coord0 (t : Fin grid0.N) : (grid0.coords t 0).val = t.val / 16 := by
  have h : (grid0.coords t 0).val = t.val / 16 % 20 := Pipeline.Grid.coords_val t 0 (by decide) rfl
  have ht : t.val < 320 := by exact N_0 ▸ t.isLt
  omega
theorem coord1 (t : Fin grid0.N) : (grid0.coords t 1).val = t.val % 16 := by
  have h : (grid0.coords t 1).val = t.val / 1 % 16 := Pipeline.Grid.coords_val t 1 (by decide) rfl
  omega
theorem N_lt (t : Fin grid0.N) : t.val < 320 := by exact N_0 ▸ t.isLt

theorem lhs_whole (c : Dev nD) (f : Buf (Elt F) ((c : Thread nD τ).loc cc0_scratch1)) : (memP c lhsM f : sProp 𝕄) = (((c : Thread nD τ).loc cc0_scratch1) ↦{fullShare} f) := by
  exact congrArg (fun S => (((c : Thread nD τ).loc cc0_scratch1) ↦[S]{fullShare} f : sProp 𝕄)) (View.set_whole cc0_scratch1)
theorem eb_whole (c : Dev nD) (f : Buf (Elt F) ((c : Thread nD τ).loc cc0_scratch2)) : (memP c ebM f : sProp 𝕄) = (((c : Thread nD τ).loc cc0_scratch2) ↦{fullShare} f) := by
  exact congrArg (fun S => (((c : Thread nD τ).loc cc0_scratch2) ↦[S]{fullShare} f : sProp 𝕄)) (View.set_whole cc0_scratch2)

/-! ## The pipeline's proof data -/

/-- What is held before point `n`. -/
def inv (c : Dev nD) (n : ℕ) : sProp 𝕄 :=
  iprop(St c (V m c main_arg7) (acc m c) (outBlk m c) (n / 16) (n % 16) ∗ (∃ f, memP c lhsM f) ∗ tabP c (Memref.whole main_v13) (V m c main_v13)
    ∗ (∃ f, memP c ebM f) ∗ bigSep Finset.univ (eWP c (V m c main_arg4)) ∗ cellP c cc0_scratch5 ∗ (∃ r, prngReg c r))

theorem next_eq (c : Dev nD) (XA) (A) (OUT) (n : ℕ) : StNext (F := F) c XA A OUT (n / 16) (n % 16) = St c XA A OUT ((n + 1) / 16) ((n + 1) % 16) := by
  unfold StNext
  by_cases h : n % 16 = 15
  · rw [if_pos h, show (n + 1) / 16 = n / 16 + 1 by omega, show (n + 1) % 16 = 0 by omega]
  · rw [if_neg h, show (n + 1) / 16 = n / 16 by omega, show (n + 1) % 16 = n % 16 + 1 by omega]

abbrev st0 (t : Fin grid0.N) : Memref sig .tc .vmem S1024x1024 .fp8e5m2 := spec0_0.stage ((cfgM m).slots t 0)
abbrev hst0 (t : Fin grid0.N) : (st0 m t).IsWhole := hstage0_0 (((cfgM m).slots t 0).cast nbuf0_0)
abbrev st1 (t : Fin grid0.N) : Memref sig .tc .vmem S1x1x1024 .f32 := spec0_1.stage ((cfgM m).slots t 1)
abbrev hst1 (t : Fin grid0.N) : (st1 m t).IsWhole := hstage0_1 (((cfgM m).slots t 1).cast nbuf0_1)
abbrev st2 (t : Fin grid0.N) : Memref sig .tc .vmem S1x1024 .f32 := spec0_2.stage ((cfgM m).slots t 2)
abbrev hst2 (t : Fin grid0.N) : (st2 m t).IsWhole := hstage0_2 (((cfgM m).slots t 2).cast nbuf0_2)
abbrev st3 (t : Fin grid0.N) : Memref sig .tc .vmem S1024x4096 .fp8e4m3 := spec0_3.stage ((cfgM m).slots t 3)
abbrev hst3 (t : Fin grid0.N) : (st3 m t).IsWhole := hstage0_3 (((cfgM m).slots t 3).cast nbuf0_3)
abbrev st4 (t : Fin grid0.N) : Memref sig .tc .vmem S64x1x256 .i32 := spec0_4.stage ((cfgM m).slots t 4)
abbrev hst4 (t : Fin grid0.N) : (st4 m t).IsWhole := hstage0_4 (((cfgM m).slots t 4).cast nbuf0_4)
abbrev st5 (t : Fin grid0.N) : Memref sig .tc .vmem S64x1x256 .f32 := spec0_5.stage ((cfgM m).slots t 5)
abbrev hst5 (t : Fin grid0.N) : (st5 m t).IsWhole := hstage0_5 (((cfgM m).slots t 5).cast nbuf0_5)

def dats (_ : Fin 1) (c : Dev nD) : Dat τ (Elt F) Unit ℕ (UU nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := inv m c t.val
  q _ := fullShare
  owed _ := 0

theorem A_eq (c : Dev nD) (w : Fin 6) : (dats m 0 c).A w = V m c (Pipeline.arrRef spec0 w) := by dsimp only [dats]
theorem after0 (c : Dev nD) (t : Fin grid0.N) : (dats m 0 c).after 0 t = iblk m c 0 t := by dsimp only [dats]; rfl
theorem after1 (c : Dev nD) (t : Fin grid0.N) : (dats m 0 c).after 1 t = iblk m c 1 t := by dsimp only [dats]; rfl
theorem after2 (c : Dev nD) (t : Fin grid0.N) : (dats m 0 c).after 2 t = iblk m c 2 t := by dsimp only [dats]; rfl
theorem after3 (c : Dev nD) (t : Fin grid0.N) : (dats m 0 c).after 3 t = iblk m c 3 t := by dsimp only [dats]; rfl
theorem after4 (c : Dev nD) (t : Fin grid0.N) : (dats m 0 c).after 4 t = iblk m c 4 t := by dsimp only [dats]; rfl
theorem after5 (c : Dev nD) (t : Fin grid0.N) : (dats m 0 c).after 5 t = iblk m c 5 t := by dsimp only [dats]; rfl
theorem before0 (c : Dev nD) (t : Fin grid0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin grid0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin grid0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

theorem defs_tc : (defs₀ (F := F)) .tc (cfgM m).body = fun a => cc0_tied_dw (grid0.coords a.1) (Memref.whole main_v13) (Memref.isWhole_whole _) (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) eM (Memref.isWhole_whole _) mgM (Memref.isWhole_whole _) outM (Memref.isWhole_whole _) accM (Memref.isWhole_whole _) lhsM (Memref.isWhole_whole _) ebM (Memref.isWhole_whole _) cc0_scratch3 cc0_scratch4 cc0_scratch5 := rfl
theorem prog_eq (t : Fin grid0.N) : (defs₀ (F := F)) .tc (cfgM m).body ((cfgM m).bodyArgs t ((cfgM m).slots t))
    = cc0_tied_dw (grid0.coords t) (Memref.whole main_v13) (Memref.isWhole_whole _) (st0 m t) (hst0 m t) (st1 m t) (hst1 m t) (st2 m t) (hst2 m t) (st3 m t) (hst3 m t) (st4 m t) (hst4 m t) (st5 m t) (hst5 m t) eM (Memref.isWhole_whole _) mgM (Memref.isWhole_whole _) outM (Memref.isWhole_whole _) accM (Memref.isWhole_whole _) lhsM (Memref.isWhole_whole _) ebM (Memref.isWhole_whole _) cc0_scratch3 cc0_scratch4 cc0_scratch5 :=
  (congrFun (defs_tc m) _).trans rfl

/-- Every word of the table is a count. -/
def TabOK : Prop := ∀ (c : Dev nD) (j), Small (tab m c j)

theorem inv_castSucc (c : Dev nD) (t : Fin grid0.N) : (dats m 0 c).Φ t.castSucc = inv m c t.val :=
  Pipeline.Dat.Φ_castSucc (fun n _ => inv m c n) t

theorem hA1 (c : Dev nD) (t : Fin grid0.N) : acc m c (grid0.coords t 0).val ((grid0.coords t 1).val + 1)
    = stepA (k0_pay10 (k0_pay9 ((st1 m t).view.read (Elt F) ((st1 m t).view.rep (iblk m c 1 t))) ((st2 m t).view.read (Elt F) ((st2 m t).view.rep (iblk m c 2 t))) ((st0 m t).view.read (Elt F) ((st0 m t).view.rep (iblk m c 0 t)))))
        ((st3 m t).view.read (Elt F) ((st3 m t).view.rep (iblk m c 3 t))) (acc m c (grid0.coords t 0).val (grid0.coords t 1).val) := by
  rw [View.read_rep, View.read_rep, View.read_rep, View.read_rep]
  exact acc_step m c t (by rw [coord0, coord1]; omega)
theorem hO (c : Dev nD) (t : Fin grid0.N) (h : (grid0.coords t 1).val = 15) : outBlk m c (Ring.bk 20 (grid0.coords t 0).val)
    = embSteps (tab m c) ((st4 m t).view.read (Elt F) ((st4 m t).view.rep (iblk m c 4 t))) ((st5 m t).view.read (Elt F) ((st5 m t).view.rep (iblk m c 5 t)))
        (fun w => (eW w).view.read (Elt F) (V m c main_arg4)) (grid0.coords t 0).val (acc m c (grid0.coords t 0).val ((grid0.coords t 1).val + 1)) := by
  rw [View.read_rep, View.read_rep, h]
  have h0 : (grid0.coords t 0).val = t.val / 16 := coord0 t
  have h1 : (grid0.coords t 1).val = t.val % 16 := coord1 t
  have hb : (Ring.bk 20 (grid0.coords t 0).val).val = (grid0.coords t 0).val := Nat.mod_eq_of_lt (grid0.coords t 0).isLt
  have et : (⟨16 * (Ring.bk 20 (grid0.coords t 0).val).val + 15, by rw [N_0]; have := (Ring.bk 20 (grid0.coords t 0).val).isLt; omega⟩ : Fin grid0.N) = t := Fin.ext (by
    show 16 * (Ring.bk 20 (grid0.coords t 0).val).val + 15 = t.val
    omega)
  unfold outBlk
  dsimp only
  rw [et, hb]

set_option backward.isDefEq.respectTransparency.types false in
theorem body_obligation (hT : TabOK m) (c : Dev nD) : BodyObligation (dats (F := F) m 0 c) (defs₀ (F := F)) 𝒱₀ () Set.univ := fun t => by
  rw [bigSep_W0, bigSep_W0]
  dsimp only
  simp only [before0, after0, before1, after1, before2, after2, before3, after3, before4, after4, before5, after5]
  rw [inv_castSucc m c t, show (dats m 0 c).Φ t.succ = inv m c (t.val + 1) from rfl]
  unfold Dat.owesAt Pipeline.owesWithin
  rw [show (dats m 0 c).owed t.castSucc = 0 from rfl, show (dats m 0 c).owed t.succ = 0 from rfl]
  unfold owns inv
  rw [← next_eq c (V m c main_arg7) (acc m c) (outBlk m c) t.val]
  iintro ⟨⟨Hst, H13, H2, H14, He, Hc, Hr⟩, ⟨%W, -, HW⟩, ⟨%d0, %g0, %hg0, H0w⟩, ⟨%d1, %g1, %hg1, H1w⟩, ⟨%d2, %g2, %hg2, H2w⟩, ⟨%d3, %g3, %hg3, H3w⟩, ⟨%d4, %g4, %hg4, H4w⟩, ⟨%d5, %g5, %hg5, H5w⟩⟩
  ihave H0' := (pointsTo_rep_entails (c : Thread nD τ) (st0 m t) g0 fullShare) $$ H0w
  rw [hg0]
  ihave H1' := (pointsTo_rep_entails (c : Thread nD τ) (st1 m t) g1 fullShare) $$ H1w
  rw [hg1]
  ihave H2' := (pointsTo_rep_entails (c : Thread nD τ) (st2 m t) g2 fullShare) $$ H2w
  rw [hg2]
  ihave H3' := (pointsTo_rep_entails (c : Thread nD τ) (st3 m t) g3 fullShare) $$ H3w
  rw [hg3]
  ihave H4' := (pointsTo_rep_entails (c : Thread nD τ) (st4 m t) g4 fullShare) $$ H4w
  rw [hg4]
  ihave H5' := (pointsTo_rep_entails (c : Thread nD τ) (st5 m t) g5 fullShare) $$ H5w
  rw [hg5]
  sl_rw [prog_eq m t]
  iapply (bodyRun c (grid0.coords t) (Memref.whole main_v13) (Memref.isWhole_whole _) (st0 m t) (hst0 m t) (st1 m t) (hst1 m t) (st2 m t) (hst2 m t) (st3 m t) (hst3 m t) (st4 m t) (hst4 m t) (st5 m t) (hst5 m t) ((st0 m t).view.rep (iblk m c 0 t)) ((st1 m t).view.rep (iblk m c 1 t)) ((st2 m t).view.rep (iblk m c 2 t)) ((st3 m t).view.rep (iblk m c 3 t)) (V m c main_v13) ((st4 m t).view.rep (iblk m c 4 t)) ((st5 m t).view.rep (iblk m c 5 t))
    (V m c main_arg4) (V m c main_arg7) (acc m c) (outBlk m c) (hT c) rfl (hA1 m c t) (hO m c t))
  irw [coord0 t, coord1 t]
  isplitl [Hst]; · iexact Hst
  isplitl [H0' H1' H2']
  · isplitl [H0']; · iexact H0'
    isplitl [H1']; · iexact H1'
    iexact H2'
  isplitl [H3']; · iexact H3'
  isplitl [H13]; · iexact H13
  isplitl [H2 H4' H5' H14 He Hc HW]
  · isplitl [H2]; · iexact H2
    isplitl [H4']; · iexact H4'
    isplitl [H5']; · iexact H5'
    isplitl [H14]; · iexact H14
    isplitl [He]; · iexact He
    isplitl [Hc]; · iexact Hc
    iexists W; iexact HW
  iintro ⟨Hst, ⟨H0, H1, H2w⟩, H3, H13, H2, H4, H5, H14, He, Hc, ⟨%W', HW⟩⟩
  isplitl [Hst H13 H2 H14 He Hc Hr]
  · isplitl [Hst]; · iexact Hst
    isplitl [H13]; · iexact H13
    isplitl [H2]; · iexact H2
    isplitl [H14]; · iexact H14
    isplitl [He]; · iexact He
    isplitl [Hc]; · iexact Hc
    iexact Hr
  isplitl [HW]
  · iexists W'; isplitr; · ipureintro; exact fun _ _ => Or.inl trivial
    iexact HW
  isplitl [H0]; · iexists _; isplitr; · ipureintro; exact View.read_rep _ _
                  iexact H0
  isplitl [H1]; · iexists _; isplitr; · ipureintro; exact View.read_rep _ _
                  iexact H1
  isplitl [H2w]; · iexists _; isplitr; · ipureintro; exact View.read_rep _ _
                   iexact H2w
  isplitl [H3]; · iexists _; isplitr; · ipureintro; exact View.read_rep _ _
                  iexact H3
  isplitl [H4]; · iexists _; isplitr; · ipureintro; exact View.read_rep _ _
                  iexact H4
  iexists _; isplitr; · ipureintro; exact View.read_rep _ _
  iexact H5

/-! ## The run -/

def H0 : Finset (Ref sig .tc) := {main_arg4, main_arg7}
def R0 : Finset (Ref sig .tc) := {main_v18}
theorem H0_sub : H0 ⊆ Pipeline.restRefsP sig pre0 spec0 := by decide
theorem R0_sub : R0 ⊆ Pipeline.restRefsP sig pre0 spec0 \ H0 := by decide

/-- What the run leaves in the written array. -/
def G (c : Dev nD) (b : Ref sig .tc) : Buf (Elt F) ((c : Thread nD τ).loc b) :=
  if h : b = main_v18 then h ▸ (glue (outBlk m c) : Buf (Elt F) ((c : Thread nD τ).loc main_v18)) else V m c b
theorem G_out (c : Dev nD) : G m c main_v18 = glue (outBlk m c) := by unfold G; rw [dif_pos rfl]

theorem heldH (c : Dev nD) (W : (b : Ref sig .tc) → Buf (Elt F) ((c : Thread nD τ).loc b)) :
    (bigSep H0 (fun b => ((c : Thread nD τ).loc b) ↦{fullShare} W b) : sProp 𝕄)
      = iprop((((c : Thread nD τ).loc main_arg4) ↦{fullShare} W main_arg4) ∗ (((c : Thread nD τ).loc main_arg7) ↦{fullShare} W main_arg7)) := by
  rw [BI.bigSep_eq_bigSepL_of_eq [main_arg4, main_arg7] (by decide) (by decide)]; rfl
theorem heldR (c : Dev nD) (W : (b : Ref sig .tc) → Buf (Elt F) ((c : Thread nD τ).loc b)) :
    (Pipeline.routed R0 c W : sProp 𝕄) = (((c : Thread nD τ).loc main_v18) ↦{fullShare} W main_v18) := by
  unfold Pipeline.routed; rw [BI.bigSep_eq_bigSepL_of_eq [main_v18] (by decide) (by decide)]; rfl

theorem tabHeld' (c : Dev nD) (W : (b : Ref sig .tc) → Buf (Elt F) ((c : Thread nD τ).loc b)) :
    (Pipeline.ΦT pre0 (fun k => W (pre0.ref k)) c : sProp 𝕄) = tabP c (Memref.whole main_v13) (W main_v13) := by
  unfold Pipeline.ΦT Pipeline.prefHeld
  refine (bigSep_univ_eq_bigSepL [(0 : Fin 1)] (by decide) (by decide) _).trans ?_
  exact congrArg (fun S => (((c : Thread nD τ).loc main_v13) ↦[S]{fullShare.right} (W main_v13) : sProp 𝕄)) (View.set_whole main_v13).symm
theorem tabHeld (c : Dev nD) : Pipeline.ΦT pre0 (adm m 0).1 c ⊢ (tabP c (Memref.whole main_v13) (V m c main_v13) : sProp 𝕄) := by
  obtain rfl : c = 0 := Subsingleton.elim _ _
  exact entails_of_eq (tabHeld' 0 (V m 0))

theorem St_first (c : Dev nD) (XA) (A) (OUT) : St (F := F) c XA A OUT 0 0 = Idle c XA OUT 0 := by unfold St; rw [if_pos rfl, if_pos (Or.inl rfl)]
theorem St_last (c : Dev nD) (XA) (A) (OUT) : St (F := F) c XA A OUT 20 0 = Idle c XA OUT 20 := by unfold St; rw [if_pos rfl, if_pos (Or.inr rfl)]

set_option backward.isDefEq.respectTransparency.types false in
theorem enter (c : Dev nD) : iprop(Pipeline.ΦDRG osem spec0 H0 R0 (V m) (V m) c ∗ Pipeline.ΦT pre0 (adm m 0).1 c) ⊢ (inv m c 0 : sProp 𝕄) := by
  rw [Pipeline.ΦDRG_eq, scopedRest0_eq, ownSems0_eq, heldH, heldR, mg_eq, e_eq]
  unfold inv
  rw [show (0 : ℕ) / 16 = 0 from rfl, show (0 : ℕ) % 16 = 0 from rfl, St_first]
  unfold Idle
  iintro ⟨⟨⟨Hacc, ⟨%f1, Hl⟩, ⟨%f2, Hb⟩⟩, Hr, ⟨Hc3, Hc4, Hc5⟩, ⟨He, Hm⟩, Ho⟩, HT⟩
  ihave Hacc' := (acc_split c) $$ Hacc
  icases Hacc' with ⟨Hs0, Hs1⟩
  ihave Ho' := (out_split c (outBlk m c) (V m c main_v18)) $$ Ho
  ihave HT' := (tabHeld m c) $$ HT
  isplitl [Hm Hc3 Hc4 Ho' Hs0 Hs1]
  · isplitl [Hm]; · iexact Hm
    isplitl [Hc3]; · iexact Hc3
    isplitl [Ho']; · iexact Ho'
    isplitl [Hc4]; · iexact Hc4
    isplitl [Hs0]; · iexact Hs0
    iexact Hs1
  isplitl [Hl]; · iexists f1; iapply (entails_of_eq (lhs_whole c f1).symm); iexact Hl
  isplitl [HT']; · iexact HT'
  isplitl [Hb]; · iexists f2; iapply (entails_of_eq (eb_whole c f2).symm); iexact Hb
  isplitl [He]; · iexact He
  isplitl [Hc5]; · iexact Hc5
  iexact Hr

set_option backward.isDefEq.respectTransparency.types false in
theorem leave (c : Dev nD) : (inv m c 320 : sProp 𝕄) ⊢ Pipeline.ΦDRG osem spec0 H0 R0 (V m) (G m) c := by
  rw [Pipeline.ΦDRG_eq, scopedRest0_eq, ownSems0_eq, heldH, heldR, mg_eq, e_eq, G_out]
  unfold inv
  rw [show (320 : ℕ) / 16 = 20 from rfl, show (320 : ℕ) % 16 = 0 from rfl, St_last]
  unfold Idle
  iintro ⟨⟨Hm, Hc3, Ho, Hc4, Hs0, Hs1⟩, ⟨%f1, Hl⟩, -, ⟨%f2, Hb⟩, He, Hc5, Hr⟩
  ihave Hl' := (entails_of_eq (lhs_whole c f1)) $$ Hl
  ihave Hb' := (entails_of_eq (eb_whole c f2)) $$ Hb
  isplitl [Hl' Hb' Hs0 Hs1]
  · isplitl [Hs0 Hs1]
    · iapply (acc_join c)
      isplitl [Hs0]; · iexact Hs0
      iexact Hs1
    isplitl [Hl']; · iexists f1; iexact Hl'
    iexists f2; iexact Hb'
  isplitl [Hr]; · iexact Hr
  isplitl [Hc3 Hc4 Hc5]
  · isplitl [Hc3]; · iexact Hc3
    isplitl [Hc4]; · iexact Hc4
    iexact Hc5
  isplitl [He Hm]
  · isplitl [He]; · iexact He
    iexact Hm
  iapply (out_join c (outBlk m c)); iexact Ho

/-- What every execution ends with: the arguments as they were, the result its blocks, every semaphore at zero. -/
def Post (r : PUnit × MemSt nD τ sig (Elt F)) : Prop :=
  (∀ c : Dev nD, (∀ b ∈ Pipeline.restRefs sig spec0 \ R0, r.2.mem ((c : Thread nD τ).loc b) = V m c b) ∧ r.2.mem ((c : Thread nD τ).loc main_v18) = glue (outBlk m c)) ∧ r.2.sem = fun _ => 0

set_option backward.isDefEq.respectTransparency.types false in
theorem run (hT : TabOK m) : θ_run (defs (F := F)) (onTc (τ := τ) (main (F := F))) ⟨m, fun _ => 0, ρ⟩ (Post m) :=
  Pipeline.θ_run_frameP_dmaRG (pcfgs (F := F)) (adm m) (dats m) 0 launch0 osem defs₀ 𝒱₀ ownSemFacts H0 R0 H0_sub R0_sub m ρ main
    (fun c => (body_obligation m hT c).loose) (fun c => (dats m 0 c).share_full fun _ => rfl) (fun _ _ => rfl)
    (V m) (Pipeline.hmainP_prefix (pcfgs (F := F)) 0 defs₀ 𝒱₀ m main hostOps0 hostOps0_sub hostOps0_fresh main_chain)
    (fun c w => A_eq m c w) (fun c k => by obtain rfl : c = 0 := Subsingleton.elim _ _; rfl)
    (G m) (fun c => enter m c) (fun c => by
      rw [show (dats m 0 c).Φ (Fin.last _) = inv m c 320 from congrArg (inv m c) N_0]; exact leave m c)
    (Post m) (fun r h => ⟨fun c => ⟨(h.1.1 c).2, (h.1.2 c main_v18 (by decide)).trans (G_out m c)⟩, h.2⟩)

end Launch
end Cert.Proof.Run
-- ==== Proof.Host.lean ====
/-
  The arrays the host lines prepare, as functions of the arguments: the table is, per row-block boundary `256 e`,
  the number of ids below it; the others are the arguments reshaped.
-/
module

public import proofs.«01_k».proof.Proof.Launch
public import Idealize.ShloMosaic.Lib.StableHlo.RunRead

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine

variable {F : FTy → Type} [FloatOps F]
local notation "𝕄" => MT nD τ sig Unit (Elt F) ℕ (UU nD τ) ℕ

section Host
variable (m : (ℓ : Loc nD τ sig) → Buf (Elt F) ℓ) (c : Dev nD)

abbrev aG : (⟨S8x2048x20480, .fp8e5m2⟩ : BufTy).Contents (Elt F) := m ((c : Thread nD τ).loc main_arg0)
abbrev aGs : (⟨S8x2048x20, .f32⟩ : BufTy).Contents (Elt F) := m ((c : Thread nD τ).loc main_arg1)
abbrev aX : (⟨S8x2048x4096, .fp8e4m3⟩ : BufTy).Contents (Elt F) := m ((c : Thread nD τ).loc main_arg2)
abbrev aXs : (⟨S8x2048, .f32⟩ : BufTy).Contents (Elt F) := m ((c : Thread nD τ).loc main_arg3)
abbrev aE : (⟨S16384x4096, .fp8e5m2⟩ : BufTy).Contents (Elt F) := m ((c : Thread nD τ).loc main_arg4)
abbrev aEs : (⟨S16384, .f32⟩ : BufTy).Contents (Elt F) := m ((c : Thread nD τ).loc main_arg5)
abbrev aIds : (⟨S16384, .i32⟩ : BufTy).Contents (Elt F) := m ((c : Thread nD τ).loc main_arg6)
abbrev aMg : (⟨S20480x4096, .f32⟩ : BufTy).Contents (Elt F) := m ((c : Thread nD τ).loc main_arg7)

/-- The table, off the ids. -/
def tabOf (ids : IVec S16384 32) : IVec S81 32 :=
  Host.reduce IntOp.addi (extui 32 (cmpi .slt
      (broadcastInDim S81x16384 ![0, 1] bcast_S1x16384_S81x16384_0_1 (broadcastInDim S1x16384 ![1] bcast_S16384_S1x16384_1 ids))
      (broadcastInDim S81x16384 ![0, 1] bcast_S81x1_S81x16384_0_1 (broadcastInDim S81x1 ![0] bcast_S81_S81x1_0 (muli (iotaInDim S81 32 0) (broadcastInDim S81 ![] bcast_S_S81 (constantI S_ 32 256#32)))))) natLt_1_32)
      (constantI S_ 32 0#32) reducesTo_S81x16384_S81_d1 h_S_

theorem after_v13 (W : Valuation τ sig (Elt F)) : StableHlo.after hostOps0 W (Proc.devRef .tc main_v13) = tabOf (W (Proc.devRef .tc main_arg6)) := by
  unfold hostOps0 tabOf
  after_reads_simp

theorem after_v14 (W : Valuation τ sig (Elt F)) : (StableHlo.after hostOps0 W (Proc.devRef .tc main_v14) : (⟨S16384x20480, .fp8e5m2⟩ : BufTy).Contents (Elt F)) = shapeCast (s := S8x2048x20480) S16384x20480 (W (Proc.devRef .tc main_arg0) : (⟨S8x2048x20480, .fp8e5m2⟩ : BufTy).Contents (Elt F)) shapeCasts_S8x2048x20480_S16384x20480 := by
  unfold hostOps0
  after_reads_simp
  try rfl
theorem after_v15 (W : Valuation τ sig (Elt F)) : (StableHlo.after hostOps0 W (Proc.devRef .tc main_v15) : (⟨S16384x4096, .fp8e4m3⟩ : BufTy).Contents (Elt F)) = shapeCast (s := S8x2048x4096) S16384x4096 (W (Proc.devRef .tc main_arg2) : (⟨S8x2048x4096, .fp8e4m3⟩ : BufTy).Contents (Elt F)) shapeCasts_S8x2048x4096_S16384x4096 := by
  unfold hostOps0
  after_reads_simp
  try rfl
theorem after_v16 (W : Valuation τ sig (Elt F)) : (StableHlo.after hostOps0 W (Proc.devRef .tc main_v16) : (⟨S64x1x256, .i32⟩ : BufTy).Contents (Elt F)) = shapeCast (s := S16384) S64x1x256 (W (Proc.devRef .tc main_arg6) : (⟨S16384, .i32⟩ : BufTy).Contents (Elt F)) shapeCasts_S16384_S64x1x256 := by
  unfold hostOps0
  after_reads_simp
  try rfl
theorem after_v17 (W : Valuation τ sig (Elt F)) : (StableHlo.after hostOps0 W (Proc.devRef .tc main_v17) : (⟨S64x1x256, .f32⟩ : BufTy).Contents (Elt F)) = shapeCast (s := S16384) S64x1x256 (W (Proc.devRef .tc main_arg5) : (⟨S16384, .f32⟩ : BufTy).Contents (Elt F)) shapeCasts_S16384_S64x1x256 := by
  unfold hostOps0
  after_reads_simp
  try rfl
theorem after_v3 (W : Valuation τ sig (Elt F)) : (StableHlo.after hostOps0 W (Proc.devRef .tc main_v3) : (⟨S1x16384, .f32⟩ : BufTy).Contents (Elt F)) = shapeCast (s := S8x2048) S1x16384 (W (Proc.devRef .tc main_arg3) : (⟨S8x2048, .f32⟩ : BufTy).Contents (Elt F)) shapeCasts_S8x2048_S1x16384 := by
  unfold hostOps0
  after_reads_simp
  try rfl
theorem after_v2 (W : Valuation τ sig (Elt F)) : (StableHlo.after hostOps0 W (Proc.devRef .tc main_v2) : (⟨S20x1x16384, .f32⟩ : BufTy).Contents (Elt F)) = shapeCast (s := S20x16384) S20x1x16384 (transpose S20x16384 [1, 0] (shapeCast (s := S8x2048x20) S16384x20 (W (Proc.devRef .tc main_arg1) : (⟨S8x2048x20, .f32⟩ : BufTy).Contents (Elt F)) shapeCasts_S8x2048x20_S16384x20) transposes_S16384x20_S20x16384_1_0) shapeCasts_S20x16384_S20x1x16384 := by
  unfold hostOps0
  after_reads_simp
  try rfl
theorem after_arg0 (W : Valuation τ sig (Elt F)) : StableHlo.after hostOps0 W (Proc.devRef .tc main_arg0) = W (Proc.devRef .tc main_arg0) := by
  unfold hostOps0
  after_reads_simp
theorem after_arg1 (W : Valuation τ sig (Elt F)) : StableHlo.after hostOps0 W (Proc.devRef .tc main_arg1) = W (Proc.devRef .tc main_arg1) := by
  unfold hostOps0
  after_reads_simp
theorem after_arg2 (W : Valuation τ sig (Elt F)) : StableHlo.after hostOps0 W (Proc.devRef .tc main_arg2) = W (Proc.devRef .tc main_arg2) := by
  unfold hostOps0
  after_reads_simp
theorem after_arg3 (W : Valuation τ sig (Elt F)) : StableHlo.after hostOps0 W (Proc.devRef .tc main_arg3) = W (Proc.devRef .tc main_arg3) := by
  unfold hostOps0
  after_reads_simp
theorem after_arg4 (W : Valuation τ sig (Elt F)) : StableHlo.after hostOps0 W (Proc.devRef .tc main_arg4) = W (Proc.devRef .tc main_arg4) := by
  unfold hostOps0
  after_reads_simp
theorem after_arg5 (W : Valuation τ sig (Elt F)) : StableHlo.after hostOps0 W (Proc.devRef .tc main_arg5) = W (Proc.devRef .tc main_arg5) := by
  unfold hostOps0
  after_reads_simp
theorem after_arg6 (W : Valuation τ sig (Elt F)) : StableHlo.after hostOps0 W (Proc.devRef .tc main_arg6) = W (Proc.devRef .tc main_arg6) := by
  unfold hostOps0
  after_reads_simp
theorem after_arg7 (W : Valuation τ sig (Elt F)) : StableHlo.after hostOps0 W (Proc.devRef .tc main_arg7) = W (Proc.devRef .tc main_arg7) := by
  unfold hostOps0
  after_reads_simp

theorem V_v14 : (V m c main_v14 : (⟨S16384x20480, .fp8e5m2⟩ : BufTy).Contents (Elt F)) = shapeCast (s := S8x2048x20480) S16384x20480 (aG m c : (⟨S8x2048x20480, .fp8e5m2⟩ : BufTy).Contents (Elt F)) shapeCasts_S8x2048x20480_S16384x20480 := after_v14 _
theorem V_v15 : (V m c main_v15 : (⟨S16384x4096, .fp8e4m3⟩ : BufTy).Contents (Elt F)) = shapeCast (s := S8x2048x4096) S16384x4096 (aX m c : (⟨S8x2048x4096, .fp8e4m3⟩ : BufTy).Contents (Elt F)) shapeCasts_S8x2048x4096_S16384x4096 := after_v15 _
theorem V_v16 : (V m c main_v16 : (⟨S64x1x256, .i32⟩ : BufTy).Contents (Elt F)) = shapeCast (s := S16384) S64x1x256 (aIds m c : (⟨S16384, .i32⟩ : BufTy).Contents (Elt F)) shapeCasts_S16384_S64x1x256 := after_v16 _
theorem V_v17 : (V m c main_v17 : (⟨S64x1x256, .f32⟩ : BufTy).Contents (Elt F)) = shapeCast (s := S16384) S64x1x256 (aEs m c : (⟨S16384, .f32⟩ : BufTy).Contents (Elt F)) shapeCasts_S16384_S64x1x256 := after_v17 _
theorem V_v3 : (V m c main_v3 : (⟨S1x16384, .f32⟩ : BufTy).Contents (Elt F)) = shapeCast (s := S8x2048) S1x16384 (aXs m c : (⟨S8x2048, .f32⟩ : BufTy).Contents (Elt F)) shapeCasts_S8x2048_S1x16384 := after_v3 _
theorem V_v2 : (V m c main_v2 : (⟨S20x1x16384, .f32⟩ : BufTy).Contents (Elt F)) = shapeCast (s := S20x16384) S20x1x16384 (transpose S20x16384 [1, 0] (shapeCast (s := S8x2048x20) S16384x20 (aGs m c : (⟨S8x2048x20, .f32⟩ : BufTy).Contents (Elt F)) shapeCasts_S8x2048x20_S16384x20) transposes_S16384x20_S20x16384_1_0) shapeCasts_S20x16384_S20x1x16384 := after_v2 _
theorem V_v13 : (V m c main_v13 : IVec S81 32) = tabOf (aIds m c) := after_v13 _
theorem V_arg0 : V m c main_arg0 = m ((c : Thread nD τ).loc main_arg0) := after_arg0 _
theorem V_arg1 : V m c main_arg1 = m ((c : Thread nD τ).loc main_arg1) := after_arg1 _
theorem V_arg2 : V m c main_arg2 = m ((c : Thread nD τ).loc main_arg2) := after_arg2 _
theorem V_arg3 : V m c main_arg3 = m ((c : Thread nD τ).loc main_arg3) := after_arg3 _
theorem V_arg4 : V m c main_arg4 = m ((c : Thread nD τ).loc main_arg4) := after_arg4 _
theorem V_arg5 : V m c main_arg5 = m ((c : Thread nD τ).loc main_arg5) := after_arg5 _
theorem V_arg6 : V m c main_arg6 = m ((c : Thread nD τ).loc main_arg6) := after_arg6 _
theorem V_arg7 : V m c main_arg7 = m ((c : Thread nD τ).loc main_arg7) := after_arg7 _

end Host
end Cert.Proof.Run
-- ==== Proof.Table.lean ====
/-
  The table's words: each is the number of ids below its boundary, so between 0 and 16384.
-/
module

public import proofs.«01_k».proof.Proof.Host
public import Idealize.ShloMosaic.Lib.Routing.Ops

@[expose] public section

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Affine
open Idealize.ShloMosaic.Routing

variable {F : FTy → Type} [FloatOps F]
local notation "𝕄" => MT nD τ sig Unit (Elt F) ℕ (UU nD τ) ℕ

section Table

/-- Row `q` lies below boundary `e`. -/
def Below (ids : IVec S16384 32) (e : ℕ) (q : ℕ) : Prop := (ids (ix1 (Fin.ofNat 16384 q))).slt (BitVec.ofNat 32 e * 256#32)
instance (ids : IVec S16384 32) (e : ℕ) : DecidablePred (Below ids e) := fun q => by unfold Below; infer_instance

theorem ix1_val {n : ℕ} (a : Fin n) : ix1 a = ValueIdx.ix1 a := by funext d; fin_cases d; rfl

/-- The mask whose rows the table counts. -/
theorem mask_at (ids : IVec S16384 32) (e : Fin 81) (q : Fin 16384) :
    cmpi .slt (broadcastInDim S81x16384 ![0, 1] bcast_S1x16384_S81x16384_0_1 (broadcastInDim S1x16384 ![1] bcast_S16384_S1x16384_1 ids))
      (broadcastInDim S81x16384 ![0, 1] bcast_S81x1_S81x16384_0_1 (broadcastInDim S81x1 ![0] bcast_S81_S81x1_0 (muli (iotaInDim S81 32 0) (broadcastInDim S81 ![] bcast_S_S81 (constantI S_ 32 256#32)))))
      (ValueIdx.ix2 e q) = IntOp.cmpi .slt (ids (ValueIdx.ix1 q)) (BitVec.ofNat 32 e.val * 256#32) := by
  show IntOp.cmpi .slt _ _ = _
  rw [bcCols bcast_S16384_S1x16384_1 bcast_S1x16384_S81x16384_0_1 ids e q, bcRows bcast_S81_S81x1_0 bcast_S81x1_S81x16384_0_1 _ e q]
  rfl

theorem tabOf_eq (ids : IVec S16384 32) (e : Fin 81) : tabOf ids (ix1 e) = BitVec.ofNat 32 (Nat.count (Below ids e.val) 16384) := by
  unfold tabOf
  rw [ix1_val]
  refine reduce_count (by norm_num) _ natLt_1_32 _ _ e (Below ids e.val) fun q => ?_
  have ha : ∀ b : Bool, (BitVec.ofBool b = 1#1) ↔ b = true := fun b => by cases b <;> decide
  have hq : Fin.ofNat 16384 q.val = q := Fin.ext (Nat.mod_eq_of_lt q.isLt)
  rw [mask_at]
  unfold Below
  rw [hq, ix1_val]
  exact ha _

theorem small_count {n : ℕ} (h : n ≤ 16384) : Small (BitVec.ofNat 32 n) := by
  unfold Small
  rw [BitVec.toInt_eq_toNat_of_lt (by rw [BitVec.toNat_ofNat]; omega), BitVec.toNat_ofNat]
  omega

theorem read_tab (c : Dev nD) (f : Buf (Elt F) ((c : Thread nD τ).loc main_v13)) : (Memref.whole main_v13).view.read (Elt F) f = (f : IVec S81 32) := View.read_whole _ _
theorem tab_val (m : (ℓ : Loc nD τ sig) → Buf (Elt F) ℓ) (c : Dev nD) : tab m c = tabOf (aIds m c) := (read_tab c _).trans (V_v13 m c)

theorem tab_ok (m : (ℓ : Loc nD τ sig) → Buf (Elt F) ℓ) : TabOK m := fun c j => by
  have hj : j = ix1 (⟨(j 0).val, (j 0).isLt⟩ : Fin 81) := funext fun a => by fin_cases a; rfl
  rw [tab_val, hj, tabOf_eq]
  exact small_count (Nat.count_le _)

/-! ## The frame -/

/-- The frame's post: the arguments as they were, every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => ((∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) ∧ ∀ c : Dev nD, r.2.mem ((c.tc : Thread nD τ).loc main_v18) = glue (outBlk m c)) :=
  (θ_run _ _ _).mono (fun r h => ⟨⟨fun c =>
      ⟨((h.1 c).1 main_arg0 (by decide)).trans (V_arg0 m c),
       ((h.1 c).1 main_arg1 (by decide)).trans (V_arg1 m c),
       ((h.1 c).1 main_arg2 (by decide)).trans (V_arg2 m c),
       ((h.1 c).1 main_arg3 (by decide)).trans (V_arg3 m c),
       ((h.1 c).1 main_arg4 (by decide)).trans (V_arg4 m c),
       ((h.1 c).1 main_arg5 (by decide)).trans (V_arg5 m c),
       ((h.1 c).1 main_arg6 (by decide)).trans (V_arg6 m c),
       ((h.1 c).1 main_arg7 (by decide)).trans (V_arg7 m c)⟩, h.2⟩, fun c => (h.1 c).2⟩) (run m ρ (tab_ok m))

end Table
end Cert.Proof.Run
-- ==== Proof.Transport.lean ====
/-
  The idealized kernel is the kernel: the two printed programs are the same term at any float instance, so what is
  proved of the one is proved of the other.
-/
module

public import proofs.«01_k».proof.Proof.Table
public import proofs.«01_k».proof.Proof.Gen.KernelIdeal

@[expose] public section

set_option maxRecDepth 100000
set_option maxHeartbeats 4000000

noncomputable section

namespace Cert.Proof.Transport

open Idealize.ShloMosaic Idealize.ShloMosaic.TcCoe Idealize.SL.Sem

variable {F : FTy → Type} [FloatOps F]

theorem defs0_eq : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl
  | ⟨n + 1, h⟩, _ => exact absurd h (Nat.not_lt.2 (Nat.le_add_left _ _))
theorem defs_eq : Cert.KernelIdeal.defs (F := F) = Cert.Kernel.defs (F := F) :=
  congrArg (Pipeline.defs (Cert.Kernel.pcfgs (F := F))) defs0_eq
theorem main_eq : Cert.KernelIdeal.main (F := F) = Cert.Kernel.main (F := F) := rfl

/-- A run of the kernel is a run of the idealized kernel. -/
theorem run_eq (s : MemSt Cert.Kernel.nD Cert.Kernel.τ Cert.Kernel.sig (Elt F)) (Q : PUnit × MemSt Cert.Kernel.nD Cert.Kernel.τ Cert.Kernel.sig (Elt F) → Prop)
    (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  rw [defs_eq, main_eq]; exact h

end Cert.Proof.Transport

end
-- ==== Proof.KBlk.lean ====
/-
  The blocks of each grid point as elements of the arguments. Token `q` of 16384 is place `q % 2048` of batch row `q / 2048`.
-/
module

public import proofs.«01_k».proof.Proof.Table
public import Idealize.ShloMosaic.Lib.Pointwise

@[expose] public section

noncomputable section

namespace Cert.Proof.Run

open Cert.Kernel Cert.Kernel.Gen
open Idealize.ShloMosaic
open Idealize.ShloMosaic.TcCoe

set_option maxRecDepth 16384

variable {F : FTy → Type} [FloatOps F] (m : (ℓ : Loc nD τ sig) → Buf (Elt F) ℓ) (c : Dev nD)

/-- Batch row and place of a token. -/
abbrev row (q : Fin 16384) : Fin 8 := ⟨q.val / 2048, by omega⟩
abbrev place (q : Fin 16384) : Fin 2048 := ⟨q.val % 2048, by omega⟩
/-- Token `s` of row block `k`. -/
abbrev tok (k : Fin 16) (s : Fin 1024) : Fin 16384 := ⟨1024 * k.val + s.val, by omega⟩
/-- Row `r` of chunk `n`. -/
abbrev vrow (n : Fin 20) (r : Fin 1024) : Fin 20480 := ⟨1024 * n.val + r.val, by omega⟩
/-- Embedding row `p` of window `w`. -/
abbrev erow (w : Fin 64) (p : Fin 256) : Fin 16384 := ⟨256 * w.val + p.val, by omega⟩

/-- Grid point `(n, k)`. -/
abbrev pt (n : Fin 20) (k : Fin 16) : Fin grid0.N := ⟨16 * n.val + k.val, by rw [N_0]; omega⟩

theorem word0 (n : Fin 20) (k : Fin 16) : (BitVec.ofNat 32 (grid0.coords (pt n k) 0).val).toNat = n.val := by
  rw [coord0, BitVec.toNat_ofNat]; show (16 * n.val + k.val) / 16 % 2 ^ 32 = n.val; omega
theorem word1 (n : Fin 20) (k : Fin 16) : (BitVec.ofNat 32 (grid0.coords (pt n k) 1).val).toNat = k.val := by
  rw [coord1, BitVec.toNat_ofNat]; show (16 * n.val + k.val) % 16 % 2 ^ 32 = k.val; omega

/-! ## Where a block's elements lie -/

theorem read0 (f : (⟨S16384x20480, .fp8e5m2⟩ : BufTy).Contents (Elt F)) (n : Fin 20) (k : Fin 16) (s r : Fin 1024) :
    (((cfgM m).win 0).blk (pt n k)).view.read (Elt F) f (ix2 s r) = f (ix2 (tok k s) (vrow n r)) := by
  refine congrArg f (funext fun (a : Fin 2) => Fin.ext ?_)
  match a with
  | 0 => exact (Pipeline.Window.rect_emb_val ((cfgM m).win 0) (pt n k) _ (0 : Fin 2)).trans (by
      show (BitVec.ofNat 32 (grid0.coords (pt n k) 1).val).toNat * 1024 + s.val = 1024 * k.val + s.val
      rw [word1]; omega)
  | 1 => exact (Pipeline.Window.rect_emb_val ((cfgM m).win 0) (pt n k) _ (1 : Fin 2)).trans (by
      show (BitVec.ofNat 32 (grid0.coords (pt n k) 0).val).toNat * 1024 + r.val = 1024 * n.val + r.val
      rw [word0]; omega)
theorem read1 (f : (⟨S20x1x16384, .f32⟩ : BufTy).Contents (Elt F)) (n : Fin 20) (k : Fin 16) (s : Fin 1024) :
    (((cfgM m).win 1).blk (pt n k)).view.read (Elt F) f (ix3 0 0 s) = f (ix3 n 0 (tok k s)) := by
  refine congrArg f (funext fun (a : Fin 3) => Fin.ext ?_)
  match a with
  | 0 => exact (Pipeline.Window.rect_emb_val ((cfgM m).win 1) (pt n k) _ (0 : Fin 3)).trans (by
      show (BitVec.ofNat 32 (grid0.coords (pt n k) 0).val).toNat * 1 + 0 = n.val
      rw [word0]; omega)
  | 1 => exact Pipeline.Window.rect_emb_val_of_index_zero ((cfgM m).win 1) (pt n k) (1 : Fin 3) rfl _
  | 2 => exact (Pipeline.Window.rect_emb_val ((cfgM m).win 1) (pt n k) _ (2 : Fin 3)).trans (by
      show (BitVec.ofNat 32 (grid0.coords (pt n k) 1).val).toNat * 1024 + s.val = 1024 * k.val + s.val
      rw [word1]; omega)
theorem read2 (f : (⟨S1x16384, .f32⟩ : BufTy).Contents (Elt F)) (n : Fin 20) (k : Fin 16) (s : Fin 1024) :
    (((cfgM m).win 2).blk (pt n k)).view.read (Elt F) f (ix2 0 s) = f (ix2 0 (tok k s)) := by
  refine congrArg f (funext fun (a : Fin 2) => Fin.ext ?_)
  match a with
  | 0 => exact Pipeline.Window.rect_emb_val_of_index_zero ((cfgM m).win 2) (pt n k) (0 : Fin 2) rfl _
  | 1 => exact (Pipeline.Window.rect_emb_val ((cfgM m).win 2) (pt n k) _ (1 : Fin 2)).trans (by
      show (BitVec.ofNat 32 (grid0.coords (pt n k) 1).val).toNat * 1024 + s.val = 1024 * k.val + s.val
      rw [word1]; omega)
theorem read3 (f : (⟨S16384x4096, .fp8e4m3⟩ : BufTy).Contents (Elt F)) (n : Fin 20) (k : Fin 16) (s : Fin 1024) (d : Fin 4096) :
    (((cfgM m).win 3).blk (pt n k)).view.read (Elt F) f (ix2 s d) = f (ix2 (tok k s) d) := by
  refine congrArg f (funext fun (a : Fin 2) => Fin.ext ?_)
  match a with
  | 0 => exact (Pipeline.Window.rect_emb_val ((cfgM m).win 3) (pt n k) _ (0 : Fin 2)).trans (by
      show (BitVec.ofNat 32 (grid0.coords (pt n k) 1).val).toNat * 1024 + s.val = 1024 * k.val + s.val
      rw [word1]; omega)
  | 1 => exact Pipeline.Window.rect_emb_val_of_index_zero ((cfgM m).win 3) (pt n k) (1 : Fin 2) rfl _
theorem read4 (f : (⟨S64x1x256, .i32⟩ : BufTy).Contents (Elt F)) (t : Fin grid0.N) (y : S64x1x256.Idx) :
    (((cfgM m).win 4).blk t).view.read (Elt F) f y = f y := by
  refine congrArg f (funext fun (a : Fin 3) => Fin.ext ?_)
  refine Pipeline.Window.rect_emb_val_of_index_zero ((cfgM m).win 4) t a ?_ y
  match a with
  | 0 => rfl
  | 1 => rfl
  | 2 => rfl
theorem read5 (f : (⟨S64x1x256, .f32⟩ : BufTy).Contents (Elt F)) (t : Fin grid0.N) (y : S64x1x256.Idx) :
    (((cfgM m).win 5).blk t).view.read (Elt F) f y = f y := by
  refine congrArg f (funext fun (a : Fin 3) => Fin.ext ?_)
  refine Pipeline.Window.rect_emb_val_of_index_zero ((cfgM m).win 5) t a ?_ y
  match a with
  | 0 => rfl
  | 1 => rfl
  | 2 => rfl
theorem readE (f : (⟨S16384x4096, .fp8e5m2⟩ : BufTy).Contents (Elt F)) (w : Fin 64) (p : Fin 256) (d : Fin 4096) :
    (eW w).view.read (Elt F) f (ix2 p d) = f (ix2 (erow w p) d) := by
  refine congrArg f (funext fun (a : Fin 2) => Fin.ext ?_)
  match a with
  | 0 => show 256 * w.val + 1 * p.val = 256 * w.val + p.val; omega
  | 1 => show 0 + 1 * d.val = d.val; omega
theorem readMg (f : (⟨S20480x4096, .f32⟩ : BufTy).Contents (Elt F)) (n : Fin 20) (r : Fin 1024) (d : Fin 4096) :
    (mgB n).view.read (Elt F) f (ix2 r d) = f (ix2 (vrow n r) d) := by
  refine congrArg f (funext fun (a : Fin 2) => Fin.ext ?_)
  match a with
  | 0 => show 1024 * n.val + 1 * r.val = 1024 * n.val + r.val; omega
  | 1 => show 0 + 1 * d.val = d.val; omega

/-! ## The prepared arrays' elements -/

section Casts
variable (g : Vec F S8x2048x20480 .fp8e5m2) (x : Vec F S8x2048x4096 .fp8e4m3) (gs : Vec F S8x2048x20 .f32) (xs : Vec F S8x2048 .f32) (ids : IVec S16384 32) (es : Vec F S16384 .f32)

theorem castG (q : Fin 16384) (v : Fin 20480) : shapeCast S16384x20480 g shapeCasts_S8x2048x20480_S16384x20480 (ix2 q v) = g (ix3 (row q) (place q) v) := by pointwise
theorem castX (q : Fin 16384) (d : Fin 4096) : shapeCast S16384x4096 x shapeCasts_S8x2048x4096_S16384x4096 (ix2 q d) = x (ix3 (row q) (place q) d) := by pointwise
theorem castGs (q : Fin 16384) (n : Fin 20) : shapeCast S20x1x16384 (transpose S20x16384 [1, 0] (shapeCast S16384x20 gs shapeCasts_S8x2048x20_S16384x20) transposes_S16384x20_S20x16384_1_0) shapeCasts_S20x16384_S20x1x16384 (ix3 n 0 q)
    = gs (ix3 (row q) (place q) n) := by pointwise
theorem castXs (q : Fin 16384) : shapeCast S1x16384 xs shapeCasts_S8x2048_S1x16384 (ix2 0 q) = xs (ix2 (row q) (place q)) := by pointwise
theorem castIds (w : Fin 64) (p : Fin 256) : shapeCast S64x1x256 ids shapeCasts_S16384_S64x1x256 (ix3 w 0 p) = ids (ix1 (erow w p)) := by
  pointwise
  exact congrArg (fun z => ids (ix1 z)) (Fin.ext (by show w.val * 256 + p.val = 256 * w.val + p.val; omega))
theorem castEs (w : Fin 64) (p : Fin 256) : shapeCast S64x1x256 es shapeCasts_S16384_S64x1x256 (ix3 w 0 p) = es (ix1 (erow w p)) := by
  pointwise
  exact congrArg (fun z => es (ix1 z)) (Fin.ext (by show w.val * 256 + p.val = 256 * w.val + p.val; omega))
end Casts

theorem gB_apply (n : Fin 20) (k : Fin 16) (s r : Fin 1024) : gB m c (pt n k) (ix2 s r) = aG m c (ix3 (row (tok k s)) (place (tok k s)) (vrow n r)) :=
  (read0 m (V m c main_v14) n k s r).trans ((congrFun (V_v14 m c) _).trans (castG _ _ _))
theorem gsB_apply (n : Fin 20) (k : Fin 16) (s : Fin 1024) : gsB m c (pt n k) (ix3 0 0 s) = aGs m c (ix3 (row (tok k s)) (place (tok k s)) n) :=
  (read1 m (V m c main_v2) n k s).trans ((congrFun (V_v2 m c) _).trans (castGs _ _ _))
theorem xsB_apply (n : Fin 20) (k : Fin 16) (s : Fin 1024) : xsB m c (pt n k) (ix2 0 s) = aXs m c (ix2 (row (tok k s)) (place (tok k s))) :=
  (read2 m (V m c main_v3) n k s).trans ((congrFun (V_v3 m c) _).trans (castXs _ _))
theorem xB_apply (n : Fin 20) (k : Fin 16) (s : Fin 1024) (d : Fin 4096) : xB m c (pt n k) (ix2 s d) = aX m c (ix3 (row (tok k s)) (place (tok k s)) d) :=
  (read3 m (V m c main_v15) n k s d).trans ((congrFun (V_v15 m c) _).trans (castX _ _ _))
theorem idB_apply (t : Fin grid0.N) (w : Fin 64) (p : Fin 256) : idB m c t (ix3 w 0 p) = aIds m c (ix1 (erow w p)) :=
  (read4 m (V m c main_v16) t _).trans ((congrFun (V_v16 m c) _).trans (castIds _ _ _))
theorem esB_apply (t : Fin grid0.N) (w : Fin 64) (p : Fin 256) : esB m c t (ix3 w 0 p) = aEs m c (ix1 (erow w p)) :=
  (read5 m (V m c main_v17) t _).trans ((congrFun (V_v17 m c) _).trans (castEs _ _ _))
theorem eW_apply (w : Fin 64) (p : Fin 256) (d : Fin 4096) : (eW w).view.read (Elt F) (V m c main_arg4) (ix2 p d) = aE m c (ix2 (erow w p) d) :=
  (readE (V m c main_arg4) w p d).trans (congrFun (V_arg4 m c) _)
theorem mgBlk_apply (n : Fin 20) (r : Fin 1024) (d : Fin 4096) : mgBlk c (V m c main_arg7) n (ix2 r d) = aMg m c (ix2 (vrow n r) d) :=
  (readMg (V m c main_arg7) n r d).trans (congrFun (V_arg7 m c) _)

end Cert.Proof.Run
-- ==== Proof.KStep.lean ====
/-
  One grid point's product on the extended reals: the slot plus the sum over the point's 1024 tokens.
-/
module

public import proofs.«01_k».proof.Proof.Steps
public import Idealize.ShloMosaic.Lib.Pointwise

@[expose] public section

noncomputable section

namespace Cert.Proof.Run

open Cert.Kernel Cert.Kernel.Gen
open Idealize.ShloMosaic
open Idealize.ShloMosaic.TcCoe

set_option maxRecDepth 16384

theorem lhs_apply (gs : Vec Ideal S1x1x1024 .f32) (xs : Vec Ideal S1x1024 .f32) (g : Vec Ideal S1024x1024 .fp8e5m2) (r t : Fin 1024) :
    k0_pay10 (k0_pay9 gs xs g) (ix2 r t) = g (ix2 t r) * (gs (ix3 0 0 t) * xs (ix2 0 t)) := by
  pointwise [k0_pay10, k0_pay9]

theorem pay11_apply (a : Vec Ideal S1x1024x512 .f32) (lhs : Vec Ideal S1024x1024 .bf16) (x : Vec Ideal S1024x512 .fp8e4m3) (r : Fin 1024) (d : Fin 512) :
    k0_pay11 a lhs x (ix3 0 r d) = a (ix3 0 r d) + ∑ t : Fin 1024, lhs (ix2 r t) * x (ix2 t d) := by
  pointwise [k0_pay11]

theorem embPay_apply (off arg0 : BitVec 32) (ids : Vec Ideal S1x1x256 .i32) (es : Vec Ideal S1x1x256 .f32) (a : Vec Ideal S1x256x4096 .f32) (e : Vec Ideal S256x4096 .fp8e5m2)
    (r : Fin 256) (d : Fin 4096) :
    embPay off arg0 ids es a e (ix3 0 r d) = a (ix3 0 r d)
      + ∑ p : Fin 256, (if ids (ix3 0 0 p) = arg0 * 1024#32 + off + BitVec.ofNat 32 r.val then es (ix3 0 0 p) else 0) * e (ix2 p d) := by
  pointwise [embPay]
  refine congrArg _ (Finset.sum_congr rfl fun p _ => ?_)
  show Scalar.select (BitVec.ofBool (ids (ix3 0 0 p) == arg0 * 1024#32 + off + BitVec.ofNat 32 r.val)) _ _ = _
  by_cases h : ids (ix3 0 0 p) = arg0 * 1024#32 + off + BitVec.ofNat 32 r.val
  · rw [if_pos h, beq_iff_eq.mpr h]; rfl
  · rw [if_neg h, beq_eq_false_iff_ne.mpr h, zero_mul]; rfl

/-- Column block `n` of one product. -/
theorem mulCols_apply (lhs : Vec Ideal S1024x1024 .bf16) (x : Vec Ideal S1024x4096 .fp8e4m3) (n : Fin 8) (a : Vec Ideal S1024x4096 .f32) (r : Fin 1024) (d : Fin 4096) :
    mulCols lhs x n a (ix2 r d) = if d.val / 512 = n.val then a (ix2 r d) + ∑ t : Fin 1024, lhs (ix2 r t) * x (ix2 t d) else a (ix2 r d) := by
  unfold mulCols putCols
  have hn := n.isLt
  have hd := d.isLt
  show (if h : 512 * n.val ≤ d.val ∧ d.val < 512 * n.val + 512 then _ else _) = _
  by_cases h : d.val / 512 = n.val
  · have hc : 512 * n.val ≤ d.val ∧ d.val < 512 * n.val + 512 := ⟨by omega, by omega⟩
    rw [dif_pos hc, if_pos h]
    refine (pay11_apply _ _ _ r ⟨d.val - 512 * n.val, by omega⟩).trans ?_
    have hx : (⟨512 * n.val + (d.val - 512 * n.val), by omega⟩ : Fin 4096) = d := Fin.ext (by show 512 * n.val + (d.val - 512 * n.val) = d.val; omega)
    refine congrArg₂ (fun u v : EReal => u + v) (congrArg (fun z => a (ix2 r z)) hx) (Finset.sum_congr rfl fun t _ => ?_)
    exact congrArg (fun z => lhs (ix2 r t) * x (ix2 t z)) hx
  · rw [dif_neg (by intro hc; exact h (by omega)), if_neg h]

theorem stepA_apply (lhs : Vec Ideal S1024x1024 .bf16) (x : Vec Ideal S1024x4096 .fp8e4m3) (a : Vec Ideal S1024x4096 .f32) (r : Fin 1024) (d : Fin 4096) :
    stepA lhs x a (ix2 r d) = a (ix2 r d) + ∑ t : Fin 1024, lhs (ix2 r t) * x (ix2 t d) := by
  unfold stepA
  have hd := d.isLt
  simp only [mulCols_apply]
  have h8 : d.val / 512 < 8 := by omega
  generalize d.val / 512 = q at h8
  interval_cases q <;> simp

end Cert.Proof.Run
-- ==== Proof.KEmb.lean ====
/-
  The embedding rows on the extended reals: a chunk plus, over the windows it takes, the rows whose id is the row's.
-/
module

public import proofs.«01_k».proof.Proof.KStep
public import proofs.«01_k».proof.Proof.Tail

@[expose] public section

noncomputable section

namespace Cert.Proof.Run

open Cert.Kernel Cert.Kernel.Gen
open Idealize.ShloMosaic
open Idealize.ShloMosaic.TcCoe

set_option maxRecDepth 16384

variable (ids : Vec Ideal S64x1x256 .i32) (es : Vec Ideal S64x1x256 .f32)

/-- What window `w` adds at row `1024 arg0 + r`. -/
def winAt (E : Vec Ideal S256x4096 .fp8e5m2) (arg0 : BitVec 32) (w : Fin 64) (r : Fin 1024) (d : Fin 4096) : EReal :=
  ∑ p : Fin 256, (if ids (ix3 w 0 p) = arg0 * 1024#32 + BitVec.ofNat 32 r.val then es (ix3 w 0 p) else 0) * E (ix2 p d)

theorem addRows_apply (E : Vec Ideal S256x4096 .fp8e5m2) (arg0 : BitVec 32) (w : Fin 64) (lo hi : BitVec 32) (m : Fin 4) (a : Vec Ideal S1024x4096 .f32) (r : Fin 1024) (d : Fin 4096) :
    addRows arg0 (tabRow w ids) (tabRow w es) E w.val lo hi m a (ix2 r d)
      = if r.val / 256 = m.val then a (ix2 r d) + (if Meets w.val lo hi then winAt ids es E arg0 w r d else 0) else a (ix2 r d) := by
  unfold addRows
  have hr := r.isLt
  have hm := m.isLt
  by_cases hM : Meets w.val lo hi
  · rw [if_pos hM, if_pos hM]
    unfold putRows
    show (if h : 256 * m.val ≤ r.val ∧ r.val < 256 * m.val + 256 then _ else _) = _
    by_cases h : r.val / 256 = m.val
    · have hc : 256 * m.val ≤ r.val ∧ r.val < 256 * m.val + 256 := ⟨by omega, by omega⟩
      rw [dif_pos hc, if_pos h]
      refine (embPay_apply _ _ _ _ _ _ ⟨r.val - 256 * m.val, by omega⟩ d).trans ?_
      have hx : (⟨256 * m.val + (r.val - 256 * m.val), by omega⟩ : Fin 1024) = r := Fin.ext (by show 256 * m.val + (r.val - 256 * m.val) = r.val; omega)
      have hb : arg0 * 1024#32 + BitVec.ofNat 32 (256 * m.val) + BitVec.ofNat 32 (r.val - 256 * m.val) = arg0 * 1024#32 + BitVec.ofNat 32 r.val := by
        rw [BitVec.add_assoc, ← BitVec.ofNat_add, show 256 * m.val + (r.val - 256 * m.val) = r.val by omega]
      refine congrArg₂ (fun u v : EReal => u + v) (congrArg (fun z => a (ix2 z d)) hx) (Finset.sum_congr rfl fun p _ => ?_)
      rw [hb]; rfl
    · rw [dif_neg (by intro hc; exact h (by omega)), if_neg h]
  · rw [if_neg hM, if_neg hM, add_zero, ite_self]

/-- One window at row `r` of the chunk: taken where it meets the row's block. -/
theorem tripStep_apply (tab : S81.Idx → BitVec 32) (E : Vec Ideal S256x4096 .fp8e5m2) (arg0 : BitVec 32) (n : ℕ) (w : Fin 64) (a : Vec Ideal S1024x4096 .f32) (r : Fin 1024) (d : Fin 4096) :
    tripStep tab ids es E arg0 n w a (ix2 r d)
      = a (ix2 r d) + (if Meets w.val (word tab (4 * n + r.val / 256)) (word tab (4 * n + r.val / 256 + 1)) then winAt ids es E arg0 w r d else 0) := by
  have hr := r.isLt
  have key : ∀ (m : Fin 4) (b : Vec Ideal S1024x4096 .f32), rowStep tab ids es E arg0 n w m b (ix2 r d)
      = if r.val / 256 = m.val then b (ix2 r d) + (if Meets w.val (word tab (4 * n + m.val)) (word tab (4 * n + m.val + 1)) then winAt ids es E arg0 w r d else 0) else b (ix2 r d) :=
    fun m b => addRows_apply ids es E arg0 w _ _ m b r d
  unfold tripStep
  rw [key, key, key, key]
  have h4 : r.val / 256 < 4 := by omega
  generalize r.val / 256 = q at h4
  interval_cases q <;> simp

theorem winSteps_apply (tab : S81.Idx → BitVec 32) (E : Fin 64 → Vec Ideal S256x4096 .fp8e5m2) (arg0 : BitVec 32) (n base : ℕ) (a : Vec Ideal S1024x4096 .f32) (k : ℕ) (r : Fin 1024) (d : Fin 4096) :
    winSteps tab ids es E arg0 n base a k (ix2 r d)
      = a (ix2 r d) + ∑ j ∈ Finset.range k, (if Meets (Ring.bk 64 (base + j)).val (word tab (4 * n + r.val / 256)) (word tab (4 * n + r.val / 256 + 1))
          then winAt ids es (E (Ring.bk 64 (base + j))) arg0 (Ring.bk 64 (base + j)) r d else 0) := by
  induction k with
  | zero => simp [winSteps]
  | succ k ih =>
    rw [winSteps, tripStep_apply, ih, Finset.sum_range_succ, add_assoc]

end Cert.Proof.Run
-- ==== Proof.KSort.lean ====
/-
  The windows' part of an element, where the ids are sorted. A chunk's windows are those between its boundaries in
  the table, and each row block takes those that meet its own boundaries; the ids being sorted, a window left out holds
  no id of the rows it is left out of.
-/
module

public import proofs.«01_k».proof.Proof.KBlk
public import proofs.«01_k».proof.Proof.KEmb
public import Idealize.ShloMosaic.Lib.Routing.Count

@[expose] public section

noncomputable section

namespace Cert.Proof.Run

open Cert.Kernel Cert.Kernel.Gen
open Idealize.ShloMosaic
open Idealize.ShloMosaic.TcCoe

/-! ## Sums cut in blocks -/

theorem sum_blocks {A B N : ℕ} (h : A * B = N) (f : Fin N → EReal) (g : Fin A → Fin B → Fin N) (hg : ∀ a b, (g a b).val = B * a.val + b.val) :
    ∑ a : Fin A, ∑ b : Fin B, f (g a b) = ∑ q : Fin N, f q := by
  subst h
  rw [← Fintype.sum_prod_type' (fun a b => f (g a b))]
  refine Fintype.sum_equiv finProdFinEquiv _ _ fun x => congrArg f (Fin.ext ?_)
  rw [hg]
  show B * x.1.val + x.2.val = x.2.val + B * x.1.val
  omega

/-- A sum over the windows, of which those that add nothing may be left out. -/
theorem sum_windows (f : Fin 64 → EReal) (Q : Fin 64 → Prop) [DecidablePred Q] (base k : ℕ) (hb : base + k ≤ 64)
    (h0 : ∀ w : Fin 64, ¬(base ≤ w.val ∧ w.val < base + k ∧ Q w) → f w = 0) :
    ∑ j ∈ Finset.range k, (if Q (Ring.bk 64 (base + j)) then f (Ring.bk 64 (base + j)) else 0) = ∑ w, f w := by
  have hbk : ∀ w : Fin 64, Ring.bk 64 w.val = w := fun w => Fin.ext (Nat.mod_eq_of_lt w.isLt)
  have hval : ∀ i, i < 64 → (Ring.bk 64 i).val = i := fun i hi => Nat.mod_eq_of_lt hi
  calc ∑ j ∈ Finset.range k, (if Q (Ring.bk 64 (base + j)) then f (Ring.bk 64 (base + j)) else 0)
      = ∑ j ∈ Finset.range k, f (Ring.bk 64 (base + j)) := Finset.sum_congr rfl fun j _ => by
        split
        · rfl
        · rename_i hq
          exact (h0 _ fun h => hq h.2.2).symm
    _ = ∑ i ∈ Finset.Ico base (base + k), f (Ring.bk 64 i) := by
        rw [Finset.sum_Ico_eq_sum_range, Nat.add_sub_cancel_left]
    _ = ∑ i ∈ Finset.range 64, f (Ring.bk 64 i) := by
        refine Finset.sum_subset (fun i hi => ?_) fun i hi hn => ?_
        · rw [Finset.mem_Ico] at hi; rw [Finset.mem_range]; omega
        · rw [Finset.mem_range] at hi
          rw [Finset.mem_Ico] at hn
          refine h0 _ fun h => hn ?_
          rw [hval i hi] at h
          exact ⟨h.1, h.2.1⟩
    _ = ∑ w, f w := by
        rw [← Fin.sum_univ_eq_sum_range (fun i => f (Ring.bk 64 i)) 64]
        exact Finset.sum_congr rfl fun w _ => congrArg f (hbk w)

/-! ## Sorted ids and the table -/

section Sorted
variable (ids : IVec S16384 32)

/-- The ids ascend, read signed. -/
def Sorted : Prop := ∀ q q' : Fin 16384, q ≤ q' → (ids (ix1 q)).toInt ≤ (ids (ix1 q')).toInt

/-- How many ids lie below boundary `256 e`. -/
@[irreducible] def cnt (e : ℕ) : ℕ := Nat.count (Below ids e) 16384

theorem cnt_eq (e : ℕ) : cnt ids e = Nat.count (Below ids e) 16384 := by unfold cnt; rfl
theorem cnt_le (e : ℕ) : cnt ids e ≤ 16384 := by rw [cnt_eq]; exact Nat.count_le _

theorem bound_toInt {e : ℕ} (he : e ≤ 80) : (BitVec.ofNat 32 e * 256#32).toInt = 256 * (e : ℤ) := by
  have : BitVec.ofNat 32 e * 256#32 = BitVec.ofNat 32 (e * 256) := by rw [BitVec.ofNat_mul]
  rw [this, BitVec.toInt_eq_toNat_of_lt (by rw [BitVec.toNat_ofNat]; omega), BitVec.toNat_ofNat]
  omega
theorem row_toInt (n : Fin 20) (r : Fin 1024) : (BitVec.ofNat 32 n.val * 1024#32 + BitVec.ofNat 32 r.val).toInt = ((vrow n r).val : ℤ) := by
  have : BitVec.ofNat 32 n.val * 1024#32 + BitVec.ofNat 32 r.val = BitVec.ofNat 32 (n.val * 1024 + r.val) := by rw [BitVec.ofNat_add, BitVec.ofNat_mul]
  have hn := n.isLt
  have hr := r.isLt
  rw [this, BitVec.toInt_eq_toNat_of_lt (by rw [BitVec.toNat_ofNat]; omega), BitVec.toNat_ofNat]
  show (((n.val * 1024 + r.val) % 2 ^ 32 : ℕ) : ℤ) = ((1024 * n.val + r.val : ℕ) : ℤ)
  omega
/-- An id is a row's word where, read signed, it is the row. -/
theorem eq_row_iff (x : BitVec 32) (n : Fin 20) (r : Fin 1024) : x = BitVec.ofNat 32 n.val * 1024#32 + BitVec.ofNat 32 r.val ↔ x.toInt = ((vrow n r).val : ℤ) := by
  rw [← row_toInt, BitVec.toInt_inj]

theorem below_iff {e : ℕ} (he : e ≤ 80) (q : Fin 16384) : Below ids e q.val ↔ (ids (ix1 q)).toInt < 256 * (e : ℤ) := by
  unfold Below
  rw [show Fin.ofNat 16384 q.val = q from Fin.ext (Nat.mod_eq_of_lt q.isLt), BitVec.slt_iff_toInt_lt, bound_toInt he]

theorem lt_cnt (hs : Sorted ids) {e : ℕ} (he : e ≤ 80) (q : Fin 16384) : q.val < cnt ids e ↔ (ids (ix1 q)).toInt < 256 * (e : ℤ) := by
  rw [← below_iff ids he q, cnt_eq]
  refine (Routing.lt_count_iff (Q := Below ids e) ?_ q.isLt).symm
  intro i j hij hj hB
  have hi : i < 16384 := by omega
  rw [below_iff ids he ⟨i, hi⟩]
  rw [below_iff ids he ⟨j, hj⟩] at hB
  exact lt_of_le_of_lt (hs ⟨i, hi⟩ ⟨j, hj⟩ hij) hB

theorem cnt_mono (hs : Sorted ids) {e e' : ℕ} (h : e ≤ e') (he : e' ≤ 80) : cnt ids e ≤ cnt ids e' := by
  by_contra hc
  have hlt : cnt ids e' < 16384 := lt_of_lt_of_le (Nat.lt_of_not_le hc) (cnt_le ids _)
  have h1 := (lt_cnt ids hs (h.trans he) ⟨cnt ids e', hlt⟩).1 (Nat.lt_of_not_le hc)
  have h2 := (lt_cnt ids hs he ⟨cnt ids e', hlt⟩).2 (by omega)
  exact Nat.lt_irrefl _ h2

theorem word_tab {e : ℕ} (he : e ≤ 80) : (word (tabOf ids) e).toInt = (cnt ids e : ℤ) := by
  unfold word
  have hv : (Fin.ofNat 81 e).val = e := Nat.mod_eq_of_lt (by omega)
  have hc := cnt_le ids e
  rw [tabOf_eq, hv, ← cnt_eq, BitVec.toInt_eq_toNat_of_lt (by rw [BitVec.toNat_ofNat]; omega), BitVec.toNat_ofNat]
  omega

theorem wLo_of {x : BitVec 32} {a : ℕ} (h : x.toInt = (a : ℤ)) : wLo x = a / 256 := by
  unfold wLo
  rw [h]
  omega
theorem wCount_of {x y : BitVec 32} {a b : ℕ} (hx : x.toInt = (a : ℤ)) (hy : y.toInt = (b : ℤ)) : wCount x y = (b + 255) / 256 - a / 256 := by
  unfold wCount
  rw [hx, hy]
  omega
theorem meets_of {w : ℕ} {x y : BitVec 32} {a b q : ℕ} (hx : x.toInt = (a : ℤ)) (hy : y.toInt = (b : ℤ)) (ha : a ≤ q) (hb : q < b) (h0 : 256 * w ≤ q) (h1 : q < 256 * w + 256) :
    Meets w x y := by
  unfold Meets
  rw [hx, hy]
  refine ⟨?_, ?_, ?_⟩ <;> omega
theorem first_le {a q w : ℕ} (h : a ≤ q) (h1 : q < 256 * w + 256) : a / 256 ≤ w := by omega
theorem lt_last {a b q w : ℕ} (ha : a ≤ q) (h : q < b) (h0 : 256 * w ≤ q) (h1 : q < 256 * w + 256) : w < a / 256 + ((b + 255) / 256 - a / 256) := by omega
theorem last_le {a b : ℕ} (ha : a ≤ 16384) (hb : b ≤ 16384) : a / 256 + ((b + 255) / 256 - a / 256) ≤ 64 := by omega
theorem block_le {n r : ℕ} (hn : n < 20) (hr : r < 1024) : 4 * n + r / 256 + 1 ≤ 80 ∧ 4 * n + r / 256 + 1 ≤ 4 * n + 4 := by omega
theorem block_row {n r : ℕ} : 256 * ((4 * n + r / 256 : ℕ) : ℤ) ≤ ((1024 * n + r : ℕ) : ℤ) ∧ ((1024 * n + r : ℕ) : ℤ) < 256 * ((4 * n + r / 256 + 1 : ℕ) : ℤ) := by omega

/-- A window that holds an id of a row is among the row's chunk's windows and meets the row's block. -/
theorem taken (hs : Sorted ids) (n : Fin 20) (r : Fin 1024) (w : Fin 64) (p : Fin 256) (h : (ids (ix1 (erow w p))).toInt = ((vrow n r).val : ℤ)) :
    wLo (word (tabOf ids) (4 * n.val)) ≤ w.val
      ∧ w.val < wLo (word (tabOf ids) (4 * n.val)) + wCount (word (tabOf ids) (4 * n.val)) (word (tabOf ids) (4 * n.val + 4))
      ∧ Meets w.val (word (tabOf ids) (4 * n.val + r.val / 256)) (word (tabOf ids) (4 * n.val + r.val / 256 + 1)) := by
  obtain ⟨hb, hb'⟩ := block_le n.isLt r.isLt
  obtain ⟨hv, hv'⟩ := block_row (n := n.val) (r := r.val)
  have q0 : 256 * w.val ≤ (erow w p).val := Nat.le_add_right _ _
  have q1 : (erow w p).val < 256 * w.val + 256 := Nat.add_lt_add_left p.isLt _
  have hlo : cnt ids (4 * n.val + r.val / 256) ≤ (erow w p).val :=
    Nat.le_of_not_lt fun hc => absurd ((lt_cnt ids hs (Nat.le_of_succ_le hb) (erow w p)).1 hc) (not_lt_of_ge (h ▸ hv))
  have hhi : (erow w p).val < cnt ids (4 * n.val + r.val / 256 + 1) := (lt_cnt ids hs hb (erow w p)).2 (h ▸ hv')
  have h0 : cnt ids (4 * n.val) ≤ cnt ids (4 * n.val + r.val / 256) := cnt_mono ids hs (Nat.le_add_right _ _) (Nat.le_of_succ_le hb)
  have hn : 4 * n.val + 4 ≤ 80 := by have := n.isLt; clear * - this; omega
  have h4 : cnt ids (4 * n.val + r.val / 256 + 1) ≤ cnt ids (4 * n.val + 4) := cnt_mono ids hs hb' hn
  have e0 := word_tab ids (e := 4 * n.val) ((Nat.le_add_right _ _).trans hn)
  have e4 := word_tab ids hn
  rw [wLo_of e0, wCount_of e0 e4]
  exact ⟨first_le (h0.trans hlo) q1, lt_last (h0.trans hlo) (hhi.trans_le h4) q0 q1,
    meets_of (word_tab ids (Nat.le_of_succ_le hb)) (word_tab ids hb) hlo hhi q0 q1⟩

theorem windows_le (n : Fin 20) : wLo (word (tabOf ids) (4 * n.val)) + wCount (word (tabOf ids) (4 * n.val)) (word (tabOf ids) (4 * n.val + 4)) ≤ 64 := by
  have hn : 4 * n.val + 4 ≤ 80 := by have := n.isLt; clear * - this; omega
  have e0 := word_tab ids (e := 4 * n.val) ((Nat.le_add_right _ _).trans hn)
  rw [wLo_of e0, wCount_of e0 (word_tab ids hn)]
  exact last_le (cnt_le ids _) (cnt_le ids _)

/-- The windows' part of an element, over the arrays the blocks are cut from. -/
theorem emb_sum (hs : Sorted ids) (es : FVec Ideal S16384 .f32) (e : FVec Ideal S16384x4096 .fp8e5m2)
    (idsB : IVec S64x1x256 32) (esB' : FVec Ideal S64x1x256 .f32) (E : Fin 64 → FVec Ideal S256x4096 .fp8e5m2)
    (hid : ∀ w p, idsB (ix3 w 0 p) = ids (ix1 (erow w p))) (hes : ∀ w p, esB' (ix3 w 0 p) = es (ix1 (erow w p)))
    (hE : ∀ w p d, E w (ix2 p d) = e (ix2 (erow w p) d)) (n : Fin 20) (a : FVec Ideal S1024x4096 .f32) (r : Fin 1024) (d : Fin 4096) :
    (embSteps (F := Ideal) (tabOf ids) idsB esB' E n.val a (ix2 r d) : EReal)
      = a (ix2 r d) + ∑ q : Fin 16384, (if (ids (ix1 q)).toInt = ((vrow n r).val : ℤ) then es (ix1 q) else 0) * e (ix2 q d) := by
  have hw : ∀ w : Fin 64, winAt idsB esB' (E w) (BitVec.ofNat 32 n.val) w r d
      = ∑ p : Fin 256, (if (ids (ix1 (erow w p))).toInt = ((vrow n r).val : ℤ) then es (ix1 (erow w p)) else 0) * e (ix2 (erow w p) d) := by
    intro w
    unfold winAt
    refine Finset.sum_congr rfl fun p _ => ?_
    rw [hid, hes, hE]
    simp only [eq_row_iff]
  unfold embSteps
  rw [winSteps_apply]
  refine congrArg (fun u : EReal => a (ix2 r d) + u) ?_
  refine (sum_windows (fun w => winAt idsB esB' (E w) (BitVec.ofNat 32 n.val) w r d)
    (fun w => Meets w.val (word (tabOf ids) (4 * n.val + r.val / 256)) (word (tabOf ids) (4 * n.val + r.val / 256 + 1))) _ _
    (windows_le ids n) fun w hnot => ?_).trans ?_
  · refine (hw w).trans (Finset.sum_eq_zero fun p _ => ?_)
    rw [if_neg (fun h => hnot (taken ids hs n r w p h)), zero_mul]
  · rw [Finset.sum_congr rfl fun w _ => hw w]
    exact sum_blocks (by norm_num) (fun q => (if (ids (ix1 q)).toInt = ((vrow n r).val : ℤ) then es (ix1 q) else 0) * e (ix2 q d)) erow fun _ _ => rfl

end Sorted
end Cert.Proof.Run
-- ==== Proof.KValue.lean ====
/-
  The kernel's result at an element, on the extended reals, where the ids are sorted.
-/
module

public import proofs.«01_k».proof.Proof.KSort

@[expose] public section

noncomputable section

namespace Cert.Proof.Run

open Cert.Kernel Cert.Kernel.Gen
open Idealize.ShloMosaic
open Idealize.ShloMosaic.TcCoe

/-! ## The result's elements -/

section Value
variable (m : (ℓ : Loc nD τ sig) → Buf (Elt Ideal) ℓ) (c : Dev nD)

/-- Token `q`'s product at row `v` and column `d`. -/
def prod (v : Fin 20480) (d : Fin 4096) (q : Fin 16384) : EReal :=
  (aG m c (ix3 (row q) (place q) v) * (aGs m c (ix3 (row q) (place q) ⟨v.val / 1024, by omega⟩) * aXs m c (ix2 (row q) (place q)))) * aX m c (ix3 (row q) (place q) d)

theorem acc_apply (n : Fin 20) (r : Fin 1024) (d : Fin 4096) : ∀ (k : ℕ) (hk : k ≤ 16),
    acc m c n.val k (ix2 r d) = aMg m c (ix2 (vrow n r) d) + ∑ j : Fin k, ∑ s : Fin 1024, prod m c (vrow n r) d (tok (Fin.castLE hk j) s)
  | 0, _ => by
    rw [acc_zero, Fin.sum_univ_zero, add_zero, show Ring.bk 20 n.val = n from Fin.ext (Nat.mod_eq_of_lt n.isLt)]
    exact mgBlk_apply m c n r d
  | k + 1, hk => by
    have hn : (⟨(vrow n r).val / 1024, by omega⟩ : Fin 20) = n := Fin.ext (by show (1024 * n.val + r.val) / 1024 = n.val; omega)
    have last : ∑ s : Fin 1024, (k0_pay10 (k0_pay9 (gsB m c (pt n ⟨k, hk⟩)) (xsB m c (pt n ⟨k, hk⟩)) (gB m c (pt n ⟨k, hk⟩))) (ix2 r s) : EReal) * xB m c (pt n ⟨k, hk⟩) (ix2 s d)
        = ∑ s : Fin 1024, prod m c (vrow n r) d (tok (Fin.castLE hk (Fin.last k)) s) := by
      refine Finset.sum_congr rfl fun s _ => ?_
      rw [lhs_apply, gB_apply, gsB_apply, xsB_apply, xB_apply]
      unfold prod
      rw [hn]
      rfl
    rw [acc_step m c (pt n ⟨k, hk⟩) rfl, stepA_apply, acc_apply n r d k (by omega), last, add_assoc]
    exact congrArg _ (Fin.sum_univ_castSucc (fun j : Fin (k + 1) => ∑ s : Fin 1024, prod m c (vrow n r) d (tok (Fin.castLE hk j) s))).symm

/-- The kernel's element at row `r` of chunk `n`. -/
theorem outBlk_apply (hs : Sorted (aIds m c)) (n : Fin 20) (r : Fin 1024) (d : Fin 4096) :
    outBlk m c n (ix2 r d) = (aMg m c (ix2 (vrow n r) d) + ∑ q : Fin 16384, prod m c (vrow n r) d q)
      + ∑ q : Fin 16384, (if (aIds m c (ix1 q)).toInt = ((vrow n r).val : ℤ) then aEs m c (ix1 q) else 0) * aE m c (ix2 q d) := by
  have ha : acc m c n.val 16 (ix2 r d) = aMg m c (ix2 (vrow n r) d) + ∑ q : Fin 16384, prod m c (vrow n r) d q :=
    (acc_apply m c n r d 16 le_rfl).trans (congrArg (fun u : EReal => aMg m c (ix2 (vrow n r) d) + u)
      (sum_blocks (by norm_num) (prod m c (vrow n r) d) (fun j s => tok (Fin.castLE le_rfl j) s) fun _ _ => rfl))
  rw [← ha]
  unfold outBlk
  rw [tab_val]
  exact emb_sum (aIds m c) hs (aEs m c) (aE m c) _ _ _ (idB_apply m c _) (esB_apply m c _) (eW_apply m c) n _ r d

end Value
end Cert.Proof.Run
-- ==== Proof.RefRun.lean ====
/-
  The reference's run: what its region leaves in the three dequantized arrays, and the host lines after it.
-/
module

public import proofs.«01_k».proof.Defs
public import proofs.«01_k».proof.Proof.Gen.ReferenceIdeal.Frame
public import Idealize.ShloMosaic.Lib.Claim
public import Idealize.ShloMosaic.Lib.StableHlo.RunRead
public import Idealize.ShloMosaic.Lib.Tactic
public import Idealize.ShloMosaic.Lib.Pointwise
public import Idealize.ShloMosaic.Lib.Pipeline.ValueKit

@[expose] public section

noncomputable section

namespace Cert.Proof.Ref

open Cert.ReferenceIdeal Cert.ReferenceIdeal.Gen
open Idealize.ShloMosaic
open Idealize.ShloMosaic.TcCoe
open Idealize.SL.Sem

set_option maxRecDepth 16384

/-- The host lines after the region, from the three dequantized arrays. -/
def tail (g : FVec Ideal S8x2048x20480 .bf16) (x : FVec Ideal S8x2048x4096 .bf16) (e : FVec Ideal S16384x4096 .f32) (ids : IVec S16384 32) (mg : FVec Ideal S20480x4096 .f32) :
    FVec Ideal S20480x4096 .f32 :=
  addf (addf mg (Host.dotGeneral dot_S8x2048x20480_S8x2048x4096_S20480x4096_01_01_2_2_n_n none g x))
    (Host.scatterAdd scatter_S20480x4096_S16384x1_S16384x4096_1_0_0_1 (broadcastInDim S20480x4096 ![] bcast_S_S20480x4096 (constant S_ .f32 0#32))
      (broadcastInDim S16384x1 ![0] bcast_S16384_S16384x1_0 ids) e)

theorem after_v6 (W : Valuation τ sig (Elt Ideal)) : (StableHlo.after hostOps1 W (Proc.devRef .tc main_v6) : (⟨S20480x4096, .f32⟩ : BufTy).Contents (Elt Ideal))
    = tail (W (Proc.devRef .tc main_v0_0) : (⟨S8x2048x20480, .bf16⟩ : BufTy).Contents (Elt Ideal)) (W (Proc.devRef .tc main_v0_1) : (⟨S8x2048x4096, .bf16⟩ : BufTy).Contents (Elt Ideal))
        (W (Proc.devRef .tc main_v0_2) : (⟨S16384x4096, .f32⟩ : BufTy).Contents (Elt Ideal)) (W (Proc.devRef .tc main_arg6) : (⟨S16384, .i32⟩ : BufTy).Contents (Elt Ideal))
        (W (Proc.devRef .tc main_arg7) : (⟨S20480x4096, .f32⟩ : BufTy).Contents (Elt Ideal)) := by
  unfold hostOps1
  after_reads_simp
  rfl
theorem after_arg7 (W : Valuation τ sig (Elt Ideal)) : StableHlo.after hostOps1 W (Proc.devRef .tc main_arg7) = W (Proc.devRef .tc main_arg7) := by
  unfold hostOps1
  after_reads_simp

variable (m : (ℓ : Loc nD τ sig) → Buf (Elt Ideal) ℓ) (ρ : Dev nD → PrngReg) (c : Dev nD)

/-- The three dequantized arrays. -/
def deqG : FVec Ideal S8x2048x20480 .bf16 := k0_pay1 (m ((c.tc : Thread nD τ).loc main_arg0)) (m ((c.tc : Thread nD τ).loc main_arg1))
def deqX : FVec Ideal S8x2048x4096 .bf16 := k0_pay2 (m ((c.tc : Thread nD τ).loc main_arg2)) (m ((c.tc : Thread nD τ).loc main_arg3))
def deqE : FVec Ideal S16384x4096 .f32 := k0_pay3 (m ((c.tc : Thread nD τ).loc main_arg4)) (m ((c.tc : Thread nD τ).loc main_arg5))

/-- Every window is its whole array. -/
theorem index_zero : ∀ (w : Fin cfg0.W) (t : Fin cfg0.N) (a), (cfg0.win w).index t a = 0 := by decide +kernel
theorem emb_val (w : Fin cfg0.W) (t : Fin cfg0.N) (y : ((cfg0.win w).xblock (cfg0.grid.coords t)).Idx) (a) : (((cfg0.win w).rect t).emb y a : ℕ) = y a :=
  (cfg0.win w).rect_emb_val_of_index_zero t a (index_zero w t a) y

theorem blk0 (t : Fin cfg0.N) : (iblk m c 0 t : Vec Ideal S8x2048x20480 .fp8e5m2) = m ((c.tc : Thread nD τ).loc main_arg0) := by
  funext y; exact congrArg (m ((c.tc : Thread nD τ).loc main_arg0)) (funext fun a => Fin.ext (emb_val 0 t y a))
theorem blk1 (t : Fin cfg0.N) : (iblk m c 1 t : Vec Ideal S8x2048x20 .f32) = m ((c.tc : Thread nD τ).loc main_arg1) := by
  funext y; exact congrArg (m ((c.tc : Thread nD τ).loc main_arg1)) (funext fun a => Fin.ext (emb_val 1 t y a))
theorem blk2 (t : Fin cfg0.N) : (iblk m c 2 t : Vec Ideal S8x2048x4096 .fp8e4m3) = m ((c.tc : Thread nD τ).loc main_arg2) := by
  funext y; exact congrArg (m ((c.tc : Thread nD τ).loc main_arg2)) (funext fun a => Fin.ext (emb_val 2 t y a))
theorem blk3 (t : Fin cfg0.N) : (iblk m c 3 t : Vec Ideal S8x2048 .f32) = m ((c.tc : Thread nD τ).loc main_arg3) := by
  funext y; exact congrArg (m ((c.tc : Thread nD τ).loc main_arg3)) (funext fun a => Fin.ext (emb_val 3 t y a))
theorem blk4 (t : Fin cfg0.N) : (iblk m c 4 t : Vec Ideal S16384x4096 .fp8e5m2) = m ((c.tc : Thread nD τ).loc main_arg4) := by
  funext y; exact congrArg (m ((c.tc : Thread nD τ).loc main_arg4)) (funext fun a => Fin.ext (emb_val 4 t y a))
theorem blk5 (t : Fin cfg0.N) : (iblk m c 5 t : Vec Ideal S16384 .f32) = m ((c.tc : Thread nD τ).loc main_arg5) := by
  funext y; exact congrArg (m ((c.tc : Thread nD τ).loc main_arg5)) (funext fun a => Fin.ext (emb_val 5 t y a))

theorem arr6 : (dats m 0 c).arrAt 6 (cfgs 0).N = deqG m c := by
  refine (dats m 0 c).arrAt_eq_of_covers 6 _ (by decide +kernel) fun t hf y => ?_
  blk_simp
  rw [after0_6]
  frame_out
  unfold deqG
  exact congr (congrArg₂ k0_pay1 (blk0 m c t) (blk1 m c t)) (funext fun a => Fin.ext (emb_val 6 t y a).symm)
theorem arr7 : (dats m 0 c).arrAt 7 (cfgs 0).N = deqX m c := by
  refine (dats m 0 c).arrAt_eq_of_covers 7 _ (by decide +kernel) fun t hf y => ?_
  blk_simp
  rw [after0_7]
  frame_out
  unfold deqX
  exact congr (congrArg₂ k0_pay2 (blk2 m c t) (blk3 m c t)) (funext fun a => Fin.ext (emb_val 7 t y a).symm)
theorem arr8 : (dats m 0 c).arrAt 8 (cfgs 0).N = deqE m c := by
  refine (dats m 0 c).arrAt_eq_of_covers 8 _ (by decide +kernel) fun t hf y => ?_
  blk_simp
  rw [after0_8]
  frame_out
  unfold deqE
  exact congr (congrArg₂ k0_pay3 (blk4 m c t) (blk5 m c t)) (funext fun a => Fin.ext (emb_val 8 t y a).symm)

/-- What the host lines leave in the result. -/
def result : FVec Ideal S20480x4096 .f32 :=
  tail (deqG m c) (deqX m c) (deqE m c) (m ((c.tc : Thread nD τ).loc main_arg6)) (m ((c.tc : Thread nD τ).loc main_arg7))

/-- What the region leaves: the arrays of the windows, and the rest as launched. -/
abbrev left : Valuation τ sig (Elt Ideal) := Pipeline.withArrays (cfgs 0).spec c (V0 m c) fun w => (dats m 0 c).arrAt w (cfgs 0).N

theorem left_arr (w : Fin cfg0.W) : left m c (Proc.devRef .tc (Pipeline.arrRef spec0 w)) = (dats m 0 c).arrAt w (cfgs 0).N :=
  Pipeline.withArrays_arr (cfgs 0).spec (by decide) c (V0 m c) _ w
theorem left_6 : left m c (Proc.devRef .tc main_arg6) = m ((c.tc : Thread nD τ).loc main_arg6) :=
  Pipeline.withArrays_of_ne (cfgs 0).spec c (V0 m c) _ main_arg6 (by decide)
theorem left_7 : left m c (Proc.devRef .tc main_arg7) = m ((c.tc : Thread nD τ).loc main_arg7) :=
  Pipeline.withArrays_of_ne (cfgs 0).spec c (V0 m c) _ main_arg7 (by decide)

theorem tail_v6 : Pipeline.afterTail₀ cfgs (dats m) 0 (V0 m) [hostOps1] c main_v6 = result m c := by
  have h : Pipeline.afterTail₀ cfgs (dats m) 0 (V0 m) [hostOps1] c main_v6 = StableHlo.after hostOps1 (left m c) (Proc.devRef .tc main_v6) := rfl
  refine h.trans ((after_v6 (left m c)).trans ?_)
  unfold result
  exact congr (congr (congr (congrArg₂ tail ((left_arr m c 6).trans (arr6 m c)) ((left_arr m c 7).trans (arr7 m c))) ((left_arr m c 8).trans (arr8 m c))) (left_6 m c)) (left_7 m c)
theorem tail_arg7 : Pipeline.afterTail₀ cfgs (dats m) 0 (V0 m) [hostOps1] c main_arg7 = m ((c.tc : Thread nD τ).loc main_arg7) := by
  have h : Pipeline.afterTail₀ cfgs (dats m) 0 (V0 m) [hostOps1] c main_arg7 = StableHlo.after hostOps1 (left m c) (Proc.devRef .tc main_arg7) := rfl
  exact h.trans ((after_arg7 (left m c)).trans (left_7 m c))

/-- Every execution ends with `result` in the result buffer and the arguments as launched. -/
theorem run : θ_run (defs (F := Ideal)) (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono ?_ (θ_run_and (unchanged m ρ) (show θ_run (defs (F := Ideal)) (onTc (τ := τ) (main (F := Ideal))) ⟨m, fun _ => 0, ρ⟩
    (fun r => ∀ c : Dev nD, r.2.mem ((c.tc : Thread nD τ).loc main_v6) = result m c) from ?_))
  · exact fun r h c => ⟨h.2 c, h.1 c⟩
  · run_from run_main m ρ
    exact tail_v6 m _

end Cert.Proof.Ref
-- ==== Proof.RefValue.lean ====
/-
  The reference's result at an element, on the extended reals.
-/
module

public import proofs.«01_k».proof.Proof.RefRun
public import Idealize.ShloMosaic.Lib.Routing.OpsPair

@[expose] public section

noncomputable section

namespace Cert.Proof.Ref

open Cert.ReferenceIdeal Cert.ReferenceIdeal.Gen
open Idealize.ShloMosaic
open Idealize.ShloMosaic.TcCoe

set_option maxRecDepth 16384

/-- An update lands in the row its id names. -/
theorem lands (ids : IVec S16384x1 32) (q : Fin 16384) (d' : Fin 4096) (v : Fin 20480) (d : Fin 4096) :
    scatter_S20480x4096_S16384x1_S16384x4096_1_0_0_1.resultIdx? (ix2 q d') ids = some (ix2 v d) ↔ (ids (ix2 q 0)).toInt = v.val ∧ d' = d := by
  rw [Routing.resultIdx?_eq_some]
  have h0 : scatter_S20480x4096_S16384x1_S16384x4096_1_0_0_1.start (ix2 q d') ids 0 = (ids (ix2 q 0)).toInt := by
    unfold ScatterDims.start
    rw [dif_pos (by decide)]
    congr 2
    funext b; fin_cases b <;> rfl
  have h1 : scatter_S20480x4096_S16384x1_S16384x4096_1_0_0_1.start (ix2 q d') ids 1 = 0 := by
    unfold ScatterDims.start
    rw [dif_neg (by decide)]
  have w0 : scatter_S20480x4096_S16384x1_S16384x4096_1_0_0_1.window (ix2 q d') 0 = 0 := by
    unfold ScatterDims.window
    rw [dif_neg (by decide)]
  have w1 : scatter_S20480x4096_S16384x1_S16384x4096_1_0_0_1.window (ix2 q d') 1 = d'.val := by
    unfold ScatterDims.window
    rw [dif_pos (by decide)]
    rfl
  constructor
  · intro h
    have a0 := h 0
    have a1 := h 1
    rw [h0, w0] at a0
    rw [h1, w1] at a1
    refine ⟨?_, Fin.ext ?_⟩
    · have : ((ix2 v d : S20480x4096.Idx) 0).val = v.val := rfl
      omega
    · have : ((ix2 v d : S20480x4096.Idx) 1).val = d.val := rfl
      omega
  · rintro ⟨ha, rfl⟩ a
    match a with
    | 0 => rw [h0, w0, ha]; show (v.val : ℤ) + 0 = v.val; omega
    | 1 => rw [h1, w1]; show (0 : ℤ) + d'.val = d'.val; omega

theorem scatter_apply (x : FVec Ideal S20480x4096 .f32) (ids : IVec S16384x1 32) (e : FVec Ideal S16384x4096 .f32) (v : Fin 20480) (d : Fin 4096) :
    Host.scatterAdd scatter_S20480x4096_S16384x1_S16384x4096_1_0_0_1 x ids e (ix2 v d)
      = x (ix2 v d) + ∑ q : Fin 16384, if (ids (ix2 q 0)).toInt = v.val then e (ix2 q d) else 0 := by
  show x (ix2 v d) + ∑ j ∈ Finset.univ.filter (fun j => scatter_S20480x4096_S16384x1_S16384x4096_1_0_0_1.resultIdx? j ids = some (ix2 v d)), e j = _
  rw [Finset.sum_filter, sum_idx2]
  refine congrArg _ (Finset.sum_congr rfl fun q _ => ?_)
  simp only [lands]
  by_cases h : (ids (ix2 q 0)).toInt = v.val
  · simp [h]
  · simp [h]

theorem dot_apply (g : FVec Ideal S8x2048x20480 .bf16) (x : FVec Ideal S8x2048x4096 .bf16) (v : Fin 20480) (d : Fin 4096) :
    Host.dotGeneral (φ₁ := .bf16) (φ₂ := .bf16) dot_S8x2048x20480_S8x2048x4096_S20480x4096_01_01_2_2_n_n none g x (ix2 v d)
      = ∑ b : Fin 8, ∑ s : Fin 2048, g (ix3 b s v) * x (ix3 b s d) := by
  pointwise

theorem deqG_apply (g : FVec Ideal S8x2048x20480 .fp8e5m2) (gs : FVec Ideal S8x2048x20 .f32) (b : Fin 8) (s : Fin 2048) (v : Fin 20480) :
    (k0_pay1 (F := Ideal) g gs (ix3 b s v) : EReal) = g (ix3 b s v) * gs (ix3 b s ⟨v.val / 1024, by omega⟩) := by
  pointwise [k0_pay1]
theorem deqX_apply (x : FVec Ideal S8x2048x4096 .fp8e4m3) (xs : FVec Ideal S8x2048 .f32) (b : Fin 8) (s : Fin 2048) (d : Fin 4096) :
    (k0_pay2 (F := Ideal) x xs (ix3 b s d) : EReal) = x (ix3 b s d) * xs (ix2 b s) := by
  pointwise [k0_pay2]
theorem deqE_apply (e : FVec Ideal S16384x4096 .fp8e5m2) (es : FVec Ideal S16384 .f32) (q : Fin 16384) (d : Fin 4096) :
    (k0_pay3 (F := Ideal) e es (ix2 q d) : EReal) = e (ix2 q d) * es (ix1 q) := by
  pointwise [k0_pay3]

/-- The reference's element from the arguments. -/
theorem tail_apply (g : FVec Ideal S8x2048x20480 .fp8e5m2) (gs : FVec Ideal S8x2048x20 .f32) (x : FVec Ideal S8x2048x4096 .fp8e4m3) (xs : FVec Ideal S8x2048 .f32)
    (e : FVec Ideal S16384x4096 .fp8e5m2) (es : FVec Ideal S16384 .f32) (ids : IVec S16384 32) (mg : FVec Ideal S20480x4096 .f32) (v : Fin 20480) (d : Fin 4096) :
    tail (k0_pay1 g gs) (k0_pay2 x xs) (k0_pay3 e es) ids mg (ix2 v d)
      = (mg (ix2 v d) + ∑ b : Fin 8, ∑ s : Fin 2048, (g (ix3 b s v) * gs (ix3 b s ⟨v.val / 1024, by omega⟩)) * (x (ix3 b s d) * xs (ix2 b s)))
        + ∑ q : Fin 16384, if (ids (ix1 q)).toInt = v.val then e (ix2 q d) * es (ix1 q) else 0 := by
  have h1 := dot_apply (k0_pay1 g gs) (k0_pay2 x xs) v d
  have h2 := scatter_apply (broadcastInDim S20480x4096 ![] bcast_S_S20480x4096 (constant S_ .f32 0#32)) (broadcastInDim S16384x1 ![0] bcast_S16384_S16384x1_0 ids) (k0_pay3 e es) v d
  refine (congrArg₂ (fun u w : EReal => (mg (ix2 v d) + u) + w) h1 h2).trans ?_
  have hz : (broadcastInDim S20480x4096 ![] bcast_S_S20480x4096 (constant S_ .f32 0#32) : FVec Ideal S20480x4096 .f32) (ix2 v d) = 0 := by
    pointwise
  have hi : ∀ q : Fin 16384, (broadcastInDim S16384x1 ![0] bcast_S16384_S16384x1_0 ids : IVec S16384x1 32) (ix2 q 0) = ids (ix1 q) := fun q => by
    pointwise
  simp only [hz, hi, zero_add, deqG_apply, deqX_apply, deqE_apply]

end Cert.Proof.Ref
-- ==== Proof.Value.lean ====
/-
  The kernel's result is the reference's, on the extended reals, where the ids are sorted.
-/
module

public import proofs.«01_k».proof.Proof.KValue
public import proofs.«01_k».proof.Proof.RefValue
public import proofs.«01_k».proof.Proof.Gen.Pre_ids_sorted

@[expose] public section

noncomputable section

namespace Cert.Proof.Run

open Cert.Kernel Cert.Kernel.Gen
open Idealize.ShloMosaic
open Idealize.ShloMosaic.TcCoe

/-! ## The precondition -/

theorem sorted_of (g : FVec Ideal S8x2048x20480 .fp8e5m2) (gs : FVec Ideal S8x2048x20 .f32) (x : FVec Ideal S8x2048x4096 .fp8e4m3) (xs : FVec Ideal S8x2048 .f32)
    (e : FVec Ideal S16384x4096 .fp8e5m2) (es : FVec Ideal S16384 .f32) (ids : IVec S16384 32) (mg : FVec Ideal S20480x4096 .f32) [Cert.Pre_ids_sorted.Facts]
    (h : Cert.Pre_ids_sorted.fn (F := Ideal) g gs x xs e es ids mg = fun _ => 1#1) : Sorted ids := by
  refine (Fin.monotone_iff_le_succ (n := 16383) (f := fun q : Fin 16384 => (ids (ix1 q)).toInt)).2 fun i => ?_
  have hi := congrFun h (ix1 i)
  have hv : Cert.Pre_ids_sorted.fn (F := Ideal) g gs x xs e es ids mg (ix1 i) = IntOp.cmpi .sle (ids (ix1 i.castSucc)) (ids (ix1 i.succ)) := by
    unfold Cert.Pre_ids_sorted.fn
    refine congrArg₂ (IntOp.cmpi .sle) (congrArg ids ?_) (congrArg ids ?_)
    · funext a
      apply Fin.ext
      fin_cases a
      show 0 + i.val = i.val
      omega
    · funext a
      apply Fin.ext
      fin_cases a
      show 1 + i.val = i.val + 1
      omega
  rw [hv] at hi
  have hb : (ids (ix1 i.castSucc)).sle (ids (ix1 i.succ)) = true := by
    rcases Bool.eq_false_or_eq_true ((ids (ix1 i.castSucc)).sle (ids (ix1 i.succ))) with hc | hc
    · exact hc
    · exact absurd (show BitVec.ofBool ((ids (ix1 i.castSucc)).sle (ids (ix1 i.succ))) = 1#1 from hi) (by rw [hc]; decide)
  exact BitVec.sle_iff_toInt_le.1 hb

/-! ## The two sums -/

section Same
variable (g : FVec Ideal S8x2048x20480 .fp8e5m2) (gs : FVec Ideal S8x2048x20 .f32) (x : FVec Ideal S8x2048x4096 .fp8e4m3) (xs : FVec Ideal S8x2048 .f32)
  (e : FVec Ideal S16384x4096 .fp8e5m2) (es : FVec Ideal S16384 .f32) (ids : IVec S16384 32) (v : Fin 20480) (d : Fin 4096)

/-- The products over the tokens, in the two orders of their factors and the two cuts of the tokens. -/
theorem prods_eq :
    ∑ q : Fin 16384, (g (ix3 (row q) (place q) v) * (gs (ix3 (row q) (place q) ⟨v.val / 1024, by omega⟩) * xs (ix2 (row q) (place q))) * x (ix3 (row q) (place q) d) : EReal)
      = ∑ b : Fin 8, ∑ s : Fin 2048, ((g (ix3 b s v) * gs (ix3 b s ⟨v.val / 1024, by omega⟩)) * (x (ix3 b s d) * xs (ix2 b s)) : EReal) := by
  refine (sum_blocks (A := 8) (B := 2048) (by norm_num) _ (fun b s => (⟨2048 * b.val + s.val, by omega⟩ : Fin 16384)) fun _ _ => rfl).symm.trans ?_
  refine Finset.sum_congr rfl fun b _ => Finset.sum_congr rfl fun s _ => ?_
  have hr : row (⟨2048 * b.val + s.val, by omega⟩ : Fin 16384) = b := Fin.ext (by show (2048 * b.val + s.val) / 2048 = b.val; omega)
  have hp : place (⟨2048 * b.val + s.val, by omega⟩ : Fin 16384) = s := Fin.ext (by show (2048 * b.val + s.val) % 2048 = s.val; omega)
  beta_reduce
  rw [hr, hp]
  generalize (g (ix3 b s v) : EReal) = p1
  generalize (gs (ix3 b s ⟨v.val / 1024, by omega⟩) : EReal) = p2
  generalize (xs (ix2 b s) : EReal) = p3
  generalize (x (ix3 b s d) : EReal) = p4
  rw [← mul_assoc, mul_assoc (p1 * p2) p3 p4, mul_comm p3 p4]

theorem rows_eq :
    ∑ q : Fin 16384, ((if (ids (ix1 q)).toInt = (v.val : ℤ) then es (ix1 q) else 0) * e (ix2 q d) : EReal)
      = ∑ q : Fin 16384, (if (ids (ix1 q)).toInt = (v.val : ℤ) then e (ix2 q d) * es (ix1 q) else 0 : EReal) := by
  refine Finset.sum_congr rfl fun q _ => ?_
  split
  · exact mul_comm _ _
  · exact zero_mul _

end Same

/-! ## The result -/

/-- The kernel's result at an element. -/
theorem glue_apply (m : (ℓ : Loc nD τ sig) → Buf (Elt Ideal) ℓ) (c : Dev nD) (hs : Sorted (aIds m c)) (v : Fin 20480) (d : Fin 4096) :
    (glue (outBlk m c) (ix2 v d) : EReal) = (aMg m c (ix2 v d) + ∑ q : Fin 16384, prod m c v d q)
      + ∑ q : Fin 16384, (if (aIds m c (ix1 q)).toInt = (v.val : ℤ) then aEs m c (ix1 q) else 0) * aE m c (ix2 q d) := by
  have hv : vrow ⟨v.val / 1024, by omega⟩ ⟨v.val % 1024, Nat.mod_lt _ (by norm_num)⟩ = v := Fin.ext (Nat.div_add_mod v.val 1024)
  have h := outBlk_apply m c hs ⟨v.val / 1024, by omega⟩ ⟨v.val % 1024, Nat.mod_lt _ (by norm_num)⟩ d
  rw [hv] at h
  exact h

/-- The two results, of the same arguments. -/
theorem glue_eq (m : (ℓ : Loc nD τ sig) → Buf (Elt Ideal) ℓ) (c : Dev nD) (hs : Sorted (aIds m c)) :
    glue (outBlk m c) = Ref.tail (Cert.ReferenceIdeal.Gen.k0_pay1 (aG m c) (aGs m c)) (Cert.ReferenceIdeal.Gen.k0_pay2 (aX m c) (aXs m c))
      (Cert.ReferenceIdeal.Gen.k0_pay3 (aE m c) (aEs m c)) (aIds m c) (aMg m c) := by
  funext y
  obtain ⟨v, d, rfl⟩ : ∃ (v : Fin 20480) (d : Fin 4096), y = ix2 v d := ⟨y 0, y 1, by funext a; fin_cases a <;> rfl⟩
  refine (glue_apply m c hs v d).trans ?_
  refine Eq.trans ?_ (Ref.tail_apply (aG m c) (aGs m c) (aX m c) (aXs m c) (aE m c) (aEs m c) (aIds m c) (aMg m c) v d).symm
  exact congrArg₂ (fun u w : EReal => (aMg m c (ix2 v d) + u) + w) (prods_eq (aG m c) (aGs m c) (aX m c) (aXs m c) v d) (rows_eq (aE m c) (aEs m c) (aIds m c) v d)

end Cert.Proof.Run
-- ==== Proof.lean ====
/-
  The certificate: each claim from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_ids_sorted
public import proofs.«01_k».proof.Proof.Transport
public import proofs.«01_k».proof.Proof.Value

@[expose] public section

noncomputable section

open Idealize.ShloMosaic Idealize.ShloMosaic.TcCoe Idealize.SL.Sem

/-- The kernel, as printed, runs and leaves its arguments as they were. -/
theorem Cert.Proof.kernel_frame : Cert.quiescent_Kernel := fun m ρ _ =>
  (θ_run _ _ _).mono (fun _ h => h.1) (Cert.Proof.Run.frame (F := Bits) m ρ)

/-- The idealized kernel does. -/
theorem Cert.Proof.kernelIdeal_frame : Cert.quiescent_KernelIdeal := fun m ρ _ =>
  Cert.Proof.Transport.run_eq _ _ ((θ_run _ _ _).mono (fun _ h => h.1) (Cert.Proof.Run.frame (F := Ideal) m ρ))

/-- The idealized kernel's result is the idealized reference's, where the ids are sorted. -/
theorem Cert.Proof.algebraic : Cert.algebraic_KernelIdeal_ReferenceIdeal_pre_ids_sorted (hPre_ids_sorted := Cert.Pre_ids_sorted.Gen.facts) := by
  intro m ρ m' ρ' hpre hargs
  have : Cert.Pre_ids_sorted.Facts := Cert.Pre_ids_sorted.Gen.facts
  refine ⟨fun c => Cert.Proof.Run.glue (Cert.Proof.Run.outBlk m c), ?_, ?_⟩
  · exact Cert.Proof.Transport.run_eq _ _ ((θ_run _ _ _).mono (fun _ h c => ⟨h.2 c, h.1.1 c⟩) (Cert.Proof.Run.frame (F := Ideal) m ρ))
  · refine (θ_run _ _ _).mono (fun _ h c => ⟨(h c).1.trans ?_, (h c).2⟩) (Cert.Proof.Ref.run m' ρ')
    obtain ⟨h0, h1, h2, h3, h4, h5, h6, h7⟩ := hargs c
    refine Eq.trans ?_ (Cert.Proof.Run.glue_eq m c (Cert.Proof.Run.sorted_of _ _ _ _ _ _ _ _ (hpre c))).symm
    unfold Cert.Proof.Ref.result Cert.Proof.Ref.deqG Cert.Proof.Ref.deqX Cert.Proof.Ref.deqE
    exact congr (congr (congr (congr (congrArg Cert.Proof.Ref.tail (congrArg₂ Cert.ReferenceIdeal.Gen.k0_pay1 h0 h1)) (congrArg₂ Cert.ReferenceIdeal.Gen.k0_pay2 h2 h3))
      (congrArg₂ Cert.ReferenceIdeal.Gen.k0_pay3 h4 h5)) h6) h7

theorem Cert.Proof.claim : Cert.Claim :=
  ⟨Cert.Kernel.Gen.facts, Cert.KernelIdeal.Gen.facts, Cert.ReferenceIdeal.Gen.facts, Cert.Pre_ids_sorted.Gen.facts,
    Cert.Proof.kernel_frame, Cert.Proof.kernelIdeal_frame, fun m ρ _ => Cert.Proof.kernelIdeal_frame m ρ trivial,
    fun m ρ _ => Cert.ReferenceIdeal.Gen.frame m ρ, fun m ρ _ => Cert.ReferenceIdeal.Gen.frame m ρ, trivial, Cert.Proof.algebraic⟩

end
